-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x4096 : Shape := ⟨3, ![16, 3, 4096]⟩
abbrev S16x3x1024 : Shape := ⟨3, ![16, 3, 1024]⟩
abbrev S16x256x4096 : Shape := ⟨3, ![16, 256, 4096]⟩
abbrev S16x512x1024 : Shape := ⟨3, ![16, 512, 1024]⟩
abbrev S256x768 : Shape := ⟨2, ![256, 768]⟩
abbrev S256 : Shape := ⟨1, ![256]⟩
abbrev S256x256 : Shape := ⟨2, ![256, 256]⟩
abbrev S_ : Shape := ⟨0, ![]⟩

class Facts : Prop where
  bcast_S_S16x3x4096 : S_.BroadcastsInDim S16x3x4096 (![] : Fin 0 → Fin S16x3x4096.rank)
  reducesTo_S16x3x4096_S_d0_1_2 : S16x3x4096.ReducesTo [0, 1, 2] S_
  h_S_ : 0 < S_.numel
  bcast_S_S16x3x1024 : S_.BroadcastsInDim S16x3x1024 (![] : Fin 0 → Fin S16x3x1024.rank)
  reducesTo_S16x3x1024_S_d0_1_2 : S16x3x1024.ReducesTo [0, 1, 2] S_
  bcast_S_S16x256x4096 : S_.BroadcastsInDim S16x256x4096 (![] : Fin 0 → Fin S16x256x4096.rank)
  reducesTo_S16x256x4096_S_d0_1_2 : S16x256x4096.ReducesTo [0, 1, 2] S_
  bcast_S_S16x512x1024 : S_.BroadcastsInDim S16x512x1024 (![] : Fin 0 → Fin S16x512x1024.rank)
  reducesTo_S16x512x1024_S_d0_1_2 : S16x512x1024.ReducesTo [0, 1, 2] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S256x768 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_v13 : IVec S_ 1) (main_v16 : IVec S16x512x1024 1) : IVec S_ 1 :=
  let main_c_5 : IVec S_ 1 := constantI S_ 1 1#1
  let main_v17 : IVec S_ 1 := (fun x v => Host.reduce IntOp.andi x v reducesTo_S16x512x1024_S_d0_1_2 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x3x4096 .f32) (main_arg1 : FVec F S16x3x1024 .f32) (main_arg2 : FVec F S16x256x4096 .f32) (main_arg3 : FVec F S16x512x1024 .f32) (main_arg4 : FVec F S256x768 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) : IVec S_ 1 :=
  let main_v0 : FVec F S16x3x4096 .f32 := Host.absf main_arg0
  let main_cst : FVec F S_ .f32 := constant S_ .f32 0x7F800000#32
  let main_v1 : FVec F S16x3x4096 .f32 := broadcastInDim S16x3x4096 ![] bcast_S_S16x3x4096 main_cst
  let main_v2 : IVec S16x3x4096 1 := cmpf .olt main_v0 main_v1
  let main_c : IVec S_ 1 := constantI S_ 1 1#1
  let main_v3 : IVec S_ 1 := (fun x v => Host.reduce IntOp.andi x v reducesTo_S16x3x4096_S_d0_1_2 h_S_) main_v2 main_c
  let main_v4 : FVec F S16x3x1024 .f32 := Host.absf main_arg1
  let main_cst_0 : FVec F S_ .f32 := constant S_ .f32 0x7F800000#32
  let main_v5 : FVec F S16x3x1024 .f32 := broadcastInDim S16x3x1024 ![] bcast_S_S16x3x1024 main_cst_0
  let main_v6 : IVec S16x3x1024 1 := cmpf .olt main_v4 main_v5
  let main_c_1 : IVec S_ 1 := constantI S_ 1 1#1
  let main_v7 : IVec S_ 1 := (fun x v => Host.reduce IntOp.andi x v reducesTo_S16x3x1024_S_d0_1_2 h_S_) main_v6 main_c_1
  let main_v8 : IVec S_ 1 := andi main_v3 main_v7
  let main_v9 : FVec F S16x256x4096 .f32 := Host.absf main_arg2
  let main_cst_2 : FVec F S_ .f32 := constant S_ .f32 0x7F800000#32
  let main_v10 : FVec F S16x256x4096 .f32 := broadcastInDim S16x256x4096 ![] bcast_S_S16x256x4096 main_cst_2
  let main_v11 : IVec S16x256x4096 1 := cmpf .olt main_v9 main_v10
  let main_c_3 : IVec S_ 1 := constantI S_ 1 1#1
  let main_v12 : IVec S_ 1 := (fun x v => Host.reduce IntOp.andi x v reducesTo_S16x256x4096_S_d0_1_2 h_S_) main_v11 main_c_3
  let main_v13 : IVec S_ 1 := andi main_v8 main_v12
  let main_v14 : FVec F S16x512x1024 .f32 := Host.absf main_arg3
  let main_cst_4 : FVec F S_ .f32 := constant S_ .f32 0x7F800000#32
  let main_v15 : FVec F S16x512x1024 .f32 := broadcastInDim S16x512x1024 ![] bcast_S_S16x512x1024 main_cst_4
  let main_v16 : IVec S16x512x1024 1 := cmpf .olt main_v14 main_v15
  fn_part1 (F := F) main_arg4 main_arg5 main_arg6 main_arg7 main_arg8 main_arg9 main_arg10 main_arg11 main_v13 main_v16
-- ==== Kernel.lean ====
abbrev S16x3x4096 : Shape := ⟨3, ![16, 3, 4096]⟩
abbrev S16x3x1024 : Shape := ⟨3, ![16, 3, 1024]⟩
abbrev S16x256x4096 : Shape := ⟨3, ![16, 256, 4096]⟩
abbrev S16x512x1024 : Shape := ⟨3, ![16, 512, 1024]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1x256 : Shape := ⟨2, ![1, 256]⟩
abbrev S1x3x1024 : Shape := ⟨3, ![1, 3, 1024]⟩
abbrev S1x512x1024 : Shape := ⟨3, ![1, 512, 1024]⟩
abbrev S1x256x1024 : Shape := ⟨3, ![1, 256, 1024]⟩
abbrev S65536x256 : Shape := ⟨2, ![65536, 256]⟩
abbrev S3x1024 : Shape := ⟨2, ![3, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S1024x512 : Shape := ⟨2, ![1024, 512]⟩
abbrev S256x1024 : Shape := ⟨2, ![256, 1024]⟩
abbrev S1024x256 : Shape := ⟨2, ![1024, 256]⟩

abbrev nBuf : Space → Nat
  | .hbm => 21
  | .vmem => 24
  | .smem => 0
  | _ => 0

abbrev bufTy : (tb : Table) → Fin (tcTables nBuf tb) → BufTy
  | .hbm, ⟨0, _⟩ => ⟨S16x3x4096, .f32⟩
  | .hbm, ⟨1, _⟩ => ⟨S16x3x1024, .f32⟩
  | .hbm, ⟨2, _⟩ => ⟨S16x256x4096, .f32⟩
  | .hbm, ⟨3, _⟩ => ⟨S16x512x1024, .f32⟩
  | .hbm, ⟨4, _⟩ => ⟨S256x768, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256x512, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S16x256x4096, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x256, .f32⟩
  | .local _ .vmem, ⟨9, _⟩ => ⟨S256x512, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256x1024, .f32⟩
  | .local _ .vmem, ⟨18, _⟩ => ⟨S1x256x1024, .f32⟩
  | .local _ .vmem, ⟨19, _⟩ => ⟨S65536x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨3, ![3, 16, 4], ![false, false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 (i : grid0.Coords) : Fin 2 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let c1024_i32 : BitVec 32 := 1024#32
  let v2 : BitVec 32 := Scalar.muli v1 c1024_i32
  let v118 : Index := Scalar.indexCast v2
  let c0_49 : Index := 0#32
  ![v118.toNat, 0]
def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_1 : BitVec 32 := 0#32
  let v8 : BitVec 1 := Scalar.cmpi .ne v7 c0_i32_1
  v8

def k0_off2 (i : grid0.Coords) : Fin 2 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let c1024_i32 : BitVec 32 := 1024#32
  let v2 : BitVec 32 := Scalar.muli v1 c1024_i32
  let v30 : Index := Scalar.indexCast v2
  let c0_12 : Index := 0#32
  ![v30.toNat, 0]
def k0_cond5 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_2 : BitVec 32 := 0#32
  let v11 : BitVec 1 := Scalar.cmpi .ne v10 c0_i32_2
  v11

def k0_off3 (i : grid0.Coords) : Fin 2 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let c1024_i32 : BitVec 32 := 1024#32
  let v2 : BitVec 32 := Scalar.muli v1 c1024_i32
  let v30 : Index := Scalar.indexCast v2
  let c0_12 : Index := 0#32
  ![v30.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let v2 : BitVec 1 := Scalar.cmpi .eq arg0 c0_i32_0
  let c3_i32 : BitVec 32 := 3#32
  let v3 : BitVec 32 := Scalar.select v2 arg2 c3_i32
  let c0_i32_1 : BitVec 32 := 0#32
  let c0_i32_2 : BitVec 32 := 0#32
  ![v1.toNat, c0_i32_1.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let v2 : BitVec 1 := Scalar.cmpi .eq arg0 c0_i32_0
  let c3_i32 : BitVec 32 := 3#32
  let v3 : BitVec 32 := Scalar.select v2 arg2 c3_i32
  let c0_i32_1 : BitVec 32 := 0#32
  let c0_i32_2 : BitVec 32 := 0#32
  ![v1.toNat, c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg0 c2_i32
  let c0_i32 : BitVec 32 := 0#32
  let v1 : BitVec 32 := Scalar.select v0 arg1 c0_i32
  let c2_i32_0 : BitVec 32 := 2#32
  let v2 : BitVec 1 := Scalar.cmpi .eq arg0 c2_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat, v3.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S16x3x4096 : Shape := ⟨3, ![16, 3, 4096]⟩
abbrev S16x3x1024 : Shape := ⟨3, ![16, 3, 1024]⟩
abbrev S16x256x4096 : Shape := ⟨3, ![16, 256, 4096]⟩
abbrev S16x512x1024 : Shape := ⟨3, ![16, 512, 1024]⟩
abbrev S256x768 : Shape := ⟨2, ![256, 768]⟩
abbrev S256 : Shape := ⟨1, ![256]⟩
abbrev S256x256 : Shape := ⟨2, ![256, 256]⟩
abbrev S16x4096x3 : Shape := ⟨3, ![16, 4096, 3]⟩
abbrev S16x1024x3 : Shape := ⟨3, ![16, 1024, 3]⟩
abbrev S16x1024x512 : Shape := ⟨3, ![16, 1024, 512]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x4096x3x1 : Shape := ⟨4, ![16, 4096, 3, 1]⟩
abbrev S16x4096x3x512 : Shape := ⟨4, ![16, 4096, 3, 512]⟩
abbrev S16x4096x512 : Shape := ⟨3, ![16, 4096, 512]⟩
abbrev S16x4096x256 : Shape := ⟨3, ![16, 4096, 256]⟩
abbrev S16x4096x768 : Shape := ⟨3, ![16, 4096, 768]⟩
abbrev S768x256 : Shape := ⟨2, ![768, 256]⟩
abbrev S1x1x256 : Shape := ⟨3, ![1, 1, 256]⟩

abbrev nBuf : Space → Nat
  | .hbm => 168
  | .vmem => 0
  | .smem => 0
  | _ => 0

abbrev hbmTy0_0 (i : Nat) : BufTy := match i % 128 with
  | 0 => ⟨S16x3x4096, .f32⟩
  | 1 => ⟨S16x3x1024, .f32⟩
  | 2 => ⟨S16x256x4096, .f32⟩
  | 3 => ⟨S16x512x1024, .f32⟩
  | 4 => ⟨S256x768, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S16x4096x3, .f32⟩
  | 13 => ⟨S16x1024x3, .f32⟩
  | 14 => ⟨S16x1024x512, .f32⟩
  | 15 => ⟨S16x3x1024, .f32⟩
  | 16 => ⟨S16x4096x1024, .f32⟩
  | 17 => ⟨S_, .f32⟩
  | 18 => ⟨S16x4096x1024, .f32⟩
  | 19 => ⟨S16x4096x1024, .f32⟩
  | 20 => ⟨S16x4096x3, .f32⟩
  | 21 => ⟨S_, .f32⟩
  | 22 => ⟨S16x4096, .f32⟩
  | 23 => ⟨S16x4096x1, .f32⟩
  | 24 => ⟨S16x4096x1024, .f32⟩
  | 25 => ⟨S16x4096x1024, .f32⟩
  | 26 => ⟨S16x1024x3, .f32⟩
  | 27 => ⟨S_, .f32⟩
  | 28 => ⟨S16x1024, .f32⟩
  | 29 => ⟨S16x1x1024, .f32⟩
  | 30 => ⟨S16x4096x1024, .f32⟩
  | 31 => ⟨S16x4096x1024, .f32⟩
  | 32 => ⟨S16x4096x1024, .f32⟩
  | 33 => ⟨S16x4096x3, .f32⟩
  | 34 => ⟨S16x4096x3, .i32⟩
  | 35 => ⟨S16x4096x3, .f32⟩
  | 36 => ⟨S_, .f32⟩
  | 37 => ⟨S16x4096x3, .f32⟩
  | 38 => ⟨S16x4096x3, .f32⟩
  | 39 => ⟨S_, .f32⟩
  | 40 => ⟨S16x4096x3, .f32⟩
  | 41 => ⟨S16x4096x3, .f32⟩
  | 42 => ⟨S_, .f32⟩
  | 43 => ⟨S16x4096, .f32⟩
  | 44 => ⟨S16x4096x1, .f32⟩
  | 45 => ⟨S16x4096x3, .f32⟩
  | 46 => ⟨S16x4096x3, .f32⟩
  | 47 => ⟨S_, .i32⟩
  | 48 => ⟨S16x4096x3, .i32⟩
  | 49 => ⟨S16x4096x3, .i1⟩
  | 50 => ⟨S_, .i32⟩
  | 51 => ⟨S16x4096x3, .i32⟩
  | 52 => ⟨S16x4096x3, .i32⟩
  | 53 => ⟨S16x4096x3, .i32⟩
  | 54 => ⟨S16x4096x3x1, .i32⟩
  | 55 => ⟨S16x4096x3x512, .f32⟩
  | 56 => ⟨S16x4096x3x1, .f32⟩
  | 57 => ⟨S16x4096x3x512, .f32⟩
  | 58 => ⟨S16x4096x3x512, .f32⟩
  | 59 => ⟨S_, .f32⟩
  | 60 => ⟨S16x4096x512, .f32⟩
  | 61 => ⟨S16x4096x256, .f32⟩
  | 62 => ⟨S16x4096x768, .f32⟩
  | 63 => ⟨S768x256, .f32⟩
  | 64 => ⟨S16x4096x256, .f32⟩
  | 65 => ⟨S1x1x256, .f32⟩
  | 66 => ⟨S16x4096x256, .f32⟩
  | 67 => ⟨S16x4096x256, .f32⟩
  | 68 => ⟨S_, .f32⟩
  | 69 => ⟨S256, .f32⟩
  | 70 => ⟨S_, .f32⟩
  | 71 => ⟨S256, .f32⟩
  | 72 => ⟨S256, .f32⟩
  | 73 => ⟨S_, .i32⟩
  | 74 => ⟨S_, .f32⟩
  | 75 => ⟨S256, .f32⟩
  | 76 => ⟨S1x1x256, .f32⟩
  | 77 => ⟨S_, .f32⟩
  | 78 => ⟨S1x1x256, .f32⟩
  | 79 => ⟨S1x1x256, .f32⟩
  | 80 => ⟨S16x4096x256, .f32⟩
  | 81 => ⟨S16x4096x256, .f32⟩
  | 82 => ⟨S16x4096x256, .f32⟩
  | 83 => ⟨S_, .f32⟩
  | 84 => ⟨S_, .f32⟩
  | 85 => ⟨S_, .f32⟩
  | 86 => ⟨S_, .f32⟩
  | 87 => ⟨S256, .f32⟩
  | 88 => ⟨S256, .f32⟩
  | 89 => ⟨S256, .f32⟩
  | 90 => ⟨S_, .f32⟩
  | 91 => ⟨S_, .i1⟩
  | 92 => ⟨S_, .f32⟩
  | 93 => ⟨S_, .f32⟩
  | 94 => ⟨S256, .f32⟩
  | 95 => ⟨S256, .f32⟩
  | 96 => ⟨S1x1x256, .f32⟩
  | 97 => ⟨S16x4096x256, .f32⟩
  | 98 => ⟨S16x4096x256, .f32⟩
  | 99 => ⟨S_, .f32⟩
  | 100 => ⟨S256, .f32⟩
  | 101 => ⟨S256, .f32⟩
  | 102 => ⟨S256, .f32⟩
  | 103 => ⟨S1x1x256, .f32⟩
  | 104 => ⟨S16x4096x256, .f32⟩
  | 105 => ⟨S16x4096x256, .f32⟩
  | 106 => ⟨S1x1x256, .f32⟩
  | 107 => ⟨S16x4096x256, .f32⟩
  | 108 => ⟨S16x4096x256, .f32⟩
  | 109 => ⟨S1x1x256, .f32⟩
  | 110 => ⟨S16x4096x256, .f32⟩
  | 111 => ⟨S16x4096x256, .f32⟩
  | 112 => ⟨S_, .f32⟩
  | 113 => ⟨S16x4096x256, .f32⟩
  | 114 => ⟨S16x4096x256, .f32⟩
  | 115 => ⟨S256x256, .f32⟩
  | 116 => ⟨S16x4096x256, .f32⟩
  | 117 => ⟨S1x1x256, .f32⟩
  | 118 => ⟨S16x4096x256, .f32⟩
  | 119 => ⟨S16x4096x256, .f32⟩
  | 120 => ⟨S_, .f32⟩
  | 121 => ⟨S256, .f32⟩
  | 122 => ⟨S_, .f32⟩
  | 123 => ⟨S256, .f32⟩
  | 124 => ⟨S256, .f32⟩
  | 125 => ⟨S_, .i32⟩
  | 126 => ⟨S_, .f32⟩
  | 127 => ⟨S256, .f32⟩
  | _ => ⟨S16x3x4096, .f32⟩

abbrev hbmTy0_1 (i : Nat) : BufTy := match i % 128 with
  | 0 => ⟨S1x1x256, .f32⟩
  | 1 => ⟨S_, .f32⟩
  | 2 => ⟨S1x1x256, .f32⟩
  | 3 => ⟨S1x1x256, .f32⟩
  | 4 => ⟨S16x4096x256, .f32⟩
  | 5 => ⟨S16x4096x256, .f32⟩
  | 6 => ⟨S16x4096x256, .f32⟩
  | 7 => ⟨S_, .f32⟩
  | 8 => ⟨S_, .f32⟩
  | 9 => ⟨S_, .f32⟩
  | 10 => ⟨S_, .f32⟩
  | 11 => ⟨S256, .f32⟩
  | 12 => ⟨S256, .f32⟩
  | 13 => ⟨S256, .f32⟩
  | 14 => ⟨S_, .f32⟩
  | 15 => ⟨S_, .i1⟩
  | 16 => ⟨S_, .f32⟩
  | 17 => ⟨S_, .f32⟩
  | 18 => ⟨S256, .f32⟩
  | 19 => ⟨S256, .f32⟩
  | 20 => ⟨S1x1x256, .f32⟩
  | 21 => ⟨S16x4096x256, .f32⟩
  | 22 => ⟨S16x4096x256, .f32⟩
  | 23 => ⟨S_, .f32⟩
  | 24 => ⟨S256, .f32⟩
  | 25 => ⟨S256, .f32⟩
  | 26 => ⟨S256, .f32⟩
  | 27 => ⟨S1x1x256, .f32⟩
  | 28 => ⟨S16x4096x256, .f32⟩
  | 29 => ⟨S16x4096x256, .f32⟩
  | 30 => ⟨S1x1x256, .f32⟩
  | 31 => ⟨S16x4096x256, .f32⟩
  | 32 => ⟨S16x4096x256, .f32⟩
  | 33 => ⟨S1x1x256, .f32⟩
  | 34 => ⟨S16x4096x256, .f32⟩
  | 35 => ⟨S16x4096x256, .f32⟩
  | 36 => ⟨S_, .f32⟩
  | 37 => ⟨S16x4096x256, .f32⟩
  | 38 => ⟨S16x4096x256, .f32⟩
  | 39 => ⟨S16x256x4096, .f32⟩
  | _ => ⟨S16x3x4096, .f32⟩

abbrev hbmTy (i : Nat) : BufTy := match i / 128 with
  | 0 => hbmTy0_0 i
  | 1 => hbmTy0_1 i
  | _ => ⟨S16x3x4096, .f32⟩

abbrev bufTy : (tb : Table) → Fin (tcTables nBuf tb) → BufTy
  | .hbm, ⟨i, _⟩ => hbmTy i
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_values : Ref sig .tc := ⟨.hbm, 33, rfl⟩
abbrev main_indices : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_cst_3 : Ref sig .tc := ⟨.hbm, 90, rfl⟩
abbrev main_call0_v12 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_10 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_call1_cst : Ref sig .tc := ⟨.hbm, 112, rfl⟩
abbrev main_call1_v0 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_11 : Ref sig .tc := ⟨.hbm, 120, rfl⟩
abbrev main_v70 : Ref sig .tc := ⟨.hbm, 121, rfl⟩
abbrev main_cst_12 : Ref sig .tc := ⟨.hbm, 122, rfl⟩
abbrev main_v71 : Ref sig .tc := ⟨.hbm, 123, rfl⟩
abbrev main_v72 : Ref sig .tc := ⟨.hbm, 124, rfl⟩
abbrev main_c_13 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_cst_3 : Ref sig .tc := ⟨.hbm, 142, rfl⟩
abbrev main_call2_v12 : Ref sig .tc := ⟨.hbm, 143, rfl⟩
abbrev main_call2_cst_4 : Ref sig .tc := ⟨.hbm, 144, rfl⟩
abbrev main_call2_call0_v0 : Ref sig .tc := ⟨.hbm, 145, rfl⟩
abbrev main_call2_call0_v1 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_14 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_call3_cst : Ref sig .tc := ⟨.hbm, 164, rfl⟩
abbrev main_call3_v0 : Ref sig .tc := ⟨.hbm, 165, rfl⟩
abbrev main_v89 : Ref sig .tc := ⟨.hbm, 166, rfl⟩
abbrev main_v90 : Ref sig .tc := ⟨.hbm, 167, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The thirteen input blocks the body reads at a grid point: both point clouds, the sparse and the skip features, and the weights of the two layers. -/
structure Ins (F : FTy → Type) where
  pp : Vec F S1x3x1024 .f32
  spp : Vec F S1x3x1024 .f32
  sf : Vec F S1x512x1024 .f32
  sk : Vec F S1x256x1024 .f32
  wa : Vec F S256x256 .f32
  wb : Vec F S256x512 .f32
  b0 : Vec F S1x256 .f32
  w1 : Vec F S256x256 .f32
  b1 : Vec F S1x256 .f32
  g0 : Vec F S1x256 .f32
  e0 : Vec F S1x256 .f32
  g1 : Vec F S1x256 .f32
  e1 : Vec F S1x256 .f32

/-- The five buffers carried from point to point: the hidden rows, and the running sums and sums of squares of the two layers. -/
structure Scr (F : FTy → Type) where
  h : Vec F S65536x256 .bf16
  s1 : Vec F S1x256 .f32
  q1 : Vec F S1x256 .f32
  s2 : Vec F S1x256 .f32
  q2 : Vec F S1x256 .f32

/-- The total weight of each dense point: the sum of the reciprocals over the three nearest rounds. -/
def totOf (x : Ins F) : FVec F S1024x1 .f32 :=
  k0_pay22 (k0_pay8 x.pp x.spp) k0_pay9 (k0_pay12 x.pp x.spp) (k0_pay13 x.pp x.spp) (Scalar.ofBits .f32 0x7F800000#32)

/-- The selection matrix: at the three nearest sparse points of a dense point their reciprocal weights, elsewhere zero. -/
def selOf (x : Ins F) : FVec F S1024x1024 .f32 :=
  k0_pay23 (k0_pay8 x.pp x.spp) k0_pay9 (k0_pay13 x.pp x.spp) (k0_pay14 x.pp x.spp) (Scalar.ofBits .f32 0x7F800000#32)

/-- The first layer's rows of one block, before rounding to the stored type. -/
def layer0 (x : Ins F) : FVec F S1024x256 .f32 :=
  k0_pay24 (totOf x) (selOf x) x.sf x.sk x.wa x.wb x.b0

/-- The first layer's rows of one block, as stored. -/
def rows0 (x : Ins F) : FVec F S1024x256 .bf16 :=
  k0_pay25 (totOf x) (selOf x) x.sf x.sk x.wa x.wb x.b0

/-- The running sum of the first layer after one more block. -/
def sum0 (x : Ins F) (s : Vec F S1x256 .f32) : FVec F S1x256 .f32 :=
  k0_pay1 (k0_pay28 (totOf x) (selOf x) x.sf x.sk x.wa x.wb x.b0 s)

/-- The running sum of squares of the first layer after one more block. -/
def sq0 (x : Ins F) (q : Vec F S1x256 .f32) : FVec F S1x256 .f32 :=
  k0_pay2 (layer0 x) q

/-- The second layer's rows of one block, from the first layer's sums and rows, before rounding to the stored type. -/
def layer1 (x : Ins F) (s q : Vec F S1x256 .f32) (h : Vec F S1024x256 .bf16) : FVec F S1024x256 .f32 :=
  k0_pay29 s q x.g0 x.e0 h x.w1 x.b1

/-- The second layer's rows of one block, as stored. -/
def rows1 (x : Ins F) (s q : Vec F S1x256 .f32) (h : Vec F S1024x256 .bf16) : FVec F S1024x256 .bf16 :=
  k0_pay30 s q x.g0 x.e0 h x.w1 x.b1

/-- The output block, from the second layer's sums and rows. -/
def outOf (x : Ins F) (s q : Vec F S1x256 .f32) (h : Vec F S1024x256 .bf16) : FVec F S1x256x1024 .f32 :=
  k0_pay7 s q x.g1 x.e1 h

/-- The rows of the hidden buffer that belong to the grid point `i`. -/
def rowsAt (i : grid0.Coords) (h : Vec F S65536x256 .bf16) (hc : ∀ a, k0_off1 i a + S1024x256.size a ≤ S65536x256.size a) : Vec F S1024x256 .bf16 :=
  VecWindow.window h (k0_off1 i) S1024x256.size hc

/-- The carried buffers after a point of phase 0 whose running sums before are `s` and `q`. -/
def step0 (x : Ins F) (i : grid0.Coords) (s q : Vec F S1x256 .f32) (st : Scr F) : Scr F :=
  { st with h := VecWindow.put st.h (k0_off1 i) S1024x256.size (rows0 x), s1 := sum0 x s, q1 := sq0 x q }

/-- The carried buffers after a point of phase 1 whose running sums before are `s` and `q`. -/
def step1 (x : Ins F) (i : grid0.Coords) (hc : ∀ a, k0_off1 i a + S1024x256.size a ≤ S65536x256.size a) (s q : Vec F S1x256 .f32) (st : Scr F) : Scr F :=
  { st with
    h := VecWindow.put st.h (k0_off1 i) S1024x256.size (rows1 x st.s1 st.q1 (rowsAt i st.h hc))
    s2 := k0_pay5 (layer1 x st.s1 st.q1 (rowsAt i st.h hc)) s
    q2 := k0_pay6 (layer1 x st.s1 st.q1 (rowsAt i st.h hc)) q }

/-- The point is the first of its phase: both inner coordinates are zero. -/
def First (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

instance (i : grid0.Coords) : Decidable (First i) := inferInstanceAs (Decidable (_ = _))

/-- Four equal arguments give equal values. -/
theorem congr4 {α β γ δ ε : Sort*} (f : α → β → γ → δ → ε) {a a' : α} {b b' : β} {d d' : γ} {e e' : δ} (h₁ : a = a') (h₂ : b = b') (h₃ : d = d') (h₄ : e = e') :
    f a b d e = f a' b' d' e' := by rw [h₁, h₂, h₃, h₄]

/-- What a running sum starts a point from: zero at the first point of its phase, otherwise what the point before left. -/
def start (i : grid0.Coords) (z v : Vec F S1x256 .f32) : Vec F S1x256 .f32 := if First i then z else v

theorem start_first {i : grid0.Coords} (hf : First i) (z v : Vec F S1x256 .f32) : z = start i z v := (if_pos hf).symm

theorem start_next {i : grid0.Coords} (hf : ¬ First i) (z v : Vec F S1x256 .f32) : v = start i z v := (if_neg hf).symm

/-- A load of a whole memref's own sizes, of its contents at a value, reads that value. -/
theorem load_whole {sp : Space} {s : Shape} {e : EltTy} (a : Memref sig .tc sp s e) (h : a.IsWhole) (x : Vec F s e) {off : Fin s.rank → ℕ}
    (inb : ∀ k, off k + s.size k ≤ s.size k) :
    a.view.readAt (Elt F) (Rect.unit off s.size inb).toLoadRect (h.unread x) = x :=
  (View.readAt_full _ _ _).trans (h.read_unread _)

/-- What the body holds at a point: the input blocks, the output's staging buffer and the carried buffers, each whole. -/
def held (c : Dev nD)
  (arg3 : Memref sig .tc .vmem S1x3x1024 .f32)
  (arg4 : Memref sig .tc .vmem S1x3x1024 .f32)
  (arg5 : Memref sig .tc .vmem S1x512x1024 .f32)
  (arg6 : Memref sig .tc .vmem S1x256x1024 .f32)
  (arg7 : Memref sig .tc .vmem S256x256 .f32)
  (arg8 : Memref sig .tc .vmem S256x512 .f32)
  (arg9 : Memref sig .tc .vmem S1x256 .f32)
  (arg10 : Memref sig .tc .vmem S256x256 .f32)
  (arg11 : Memref sig .tc .vmem S1x256 .f32)
  (arg12 : Memref sig .tc .vmem S1x256 .f32)
  (arg13 : Memref sig .tc .vmem S1x256 .f32)
  (arg14 : Memref sig .tc .vmem S1x256 .f32)
  (arg15 : Memref sig .tc .vmem S1x256 .f32)
  (arg16 : Memref sig .tc .vmem S1x256x1024 .f32)
  (arg17 : Memref sig .tc .vmem S65536x256 .bf16)
  (arg18 : Memref sig .tc .vmem S1x256 .f32)
  (arg19 : Memref sig .tc .vmem S1x256 .f32)
  (arg20 : Memref sig .tc .vmem S1x256 .f32)
  (arg21 : Memref sig .tc .vmem S1x256 .f32)
  (x : Ins F) (o : Vec F S1x256x1024 .f32) (s : Scr F) : sProp 𝕄 :=
  iprop(owns (c : Thread nD τ) arg3 fullShare x.pp ∗ owns (c : Thread nD τ) arg4 fullShare x.spp ∗ owns (c : Thread nD τ) arg5 fullShare x.sf ∗ owns (c : Thread nD τ) arg6 fullShare x.sk ∗ owns (c : Thread nD τ) arg7 fullShare x.wa ∗ owns (c : Thread nD τ) arg8 fullShare x.wb ∗ owns (c : Thread nD τ) arg9 fullShare x.b0 ∗ owns (c : Thread nD τ) arg10 fullShare x.w1 ∗ owns (c : Thread nD τ) arg11 fullShare x.b1 ∗ owns (c : Thread nD τ) arg12 fullShare x.g0 ∗ owns (c : Thread nD τ) arg13 fullShare x.e0 ∗ owns (c : Thread nD τ) arg14 fullShare x.g1 ∗ owns (c : Thread nD τ) arg15 fullShare x.e1 ∗ owns (c : Thread nD τ) arg16 fullShare o ∗ owns (c : Thread nD τ) arg17 fullShare s.h ∗ owns (c : Thread nD τ) arg18 fullShare s.s1 ∗ owns (c : Thread nD τ) arg19 fullShare s.q1 ∗ owns (c : Thread nD τ) arg20 fullShare s.s2 ∗ owns (c : Thread nD τ) arg21 fullShare s.q2)

end Cert.KernelIdeal.Mega

end
-- ==== Proof.Points.lean ====
module

public import proofs.«01_k».proof.Proof.Body

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- Phase 0 is the first 64 points. -/
theorem phase0_iff : ∀ t : Fin cfg0.N, k0_cond1 (grid0.coords t) = 1#1 ↔ t.val < 64 :=
  (fun t => by
    have ht : t.val < 192 := Nat.lt_of_lt_of_eq t.isLt N_0
    have e0 : (grid0.coords t 0).val = t.val / 64 % 3 := Pipeline.Grid.coords_val t 0 (by decide) rfl
    simp only [k0_cond1, e0]
    word_cmp
   : ∀ t : Fin grid0.N, k0_cond1 (grid0.coords t) = 1#1 ↔ t.val < 64)

/-- Phase 1 is the second 64 points. -/
theorem phase1_iff : ∀ t : Fin cfg0.N, k0_cond3 (grid0.coords t) = 1#1 ↔ t.val / 64 % 3 = 1 :=
  (fun t => by
    have ht : t.val < 192 := Nat.lt_of_lt_of_eq t.isLt N_0
    have e0 : (grid0.coords t 0).val = t.val / 64 % 3 := Pipeline.Grid.coords_val t 0 (by decide) rfl
    simp only [k0_cond3, e0]
    word_cmp
   : ∀ t : Fin grid0.N, k0_cond3 (grid0.coords t) = 1#1 ↔ t.val / 64 % 3 = 1)

/-- Phase 2 is the last 64 points. -/
theorem phase2_iff : ∀ t : Fin cfg0.N, k0_cond5 (grid0.coords t) = 1#1 ↔ 128 ≤ t.val :=
  (fun t => by
    have ht : t.val < 192 := Nat.lt_of_lt_of_eq t.isLt N_0
    have e0 : (grid0.coords t 0).val = t.val / 64 % 3 := Pipeline.Grid.coords_val t 0 (by decide) rfl
    simp only [k0_cond5, e0]
    word_cmp
   : ∀ t : Fin grid0.N, k0_cond5 (grid0.coords t) = 1#1 ↔ 128 ≤ t.val)

/-- A phase's first point is the one whose number within the phase is zero. -/
theorem first_iff : ∀ t : Fin cfg0.N, First (grid0.coords t) ↔ t.val % 64 = 0 :=
  (fun t => by
    have ht : t.val < 192 := Nat.lt_of_lt_of_eq t.isLt N_0
    have e1 : (grid0.coords t 1).val = t.val / 4 % 16 := Pipeline.Grid.coords_val t 1 (by decide) rfl
    have e2 : (grid0.coords t 2).val = t.val / 1 % 4 := Pipeline.Grid.coords_val t 2 (by decide) rfl
    simp only [First, e1, e2]
    word_cmp
   : ∀ t : Fin grid0.N, First (grid0.coords t) ↔ t.val % 64 = 0)

/-- A point's rows of the hidden buffer start at 1024 times its number within the phase. -/
theorem off_eq : ∀ t : Fin cfg0.N, k0_off1 (grid0.coords t) = ![1024 * (t.val % 64), 0] :=
  (by decide +kernel : ∀ t : Fin grid0.N, k0_off1 (grid0.coords t) = ![1024 * (t.val % 64), 0])

/-- Outside phase 2 the output's window is idle. -/
theorem idle13 : ∀ t : Fin cfg0.N, t.val < 128 → cfg0.idle 13 (grid0.coords t) = true := by decide +kernel

/-- Outside phase 2 the output's block is not written back. -/
theorem noFlush13 : ∀ t : Fin cfg0.N, t.val < 128 → (cfg0.win 13).flush t = false := by decide +kernel

/-- In phase 2 the output's window is live. -/
theorem live13 : ∀ t : Fin cfg0.N, 128 ≤ t.val → cfg0.idle 13 (grid0.coords t) = false := by decide +kernel

end Cert.KernelIdeal.Mega

end
-- ==== Proof.State.lean ====
module

public import proofs.«01_k».proof.Proof.Points

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers hold -/

/-- The input blocks at a point of the grid. -/
def insPt (c : Dev nD) (t : Fin cfg0.N) : Ins F :=
  { pp := iblk m c 0 t, spp := iblk m c 1 t, sf := iblk m c 2 t, sk := iblk m c 3 t, wa := iblk m c 4 t, wb := iblk m c 5 t, b0 := iblk m c 6 t, w1 := iblk m c 7 t, b1 := iblk m c 8 t, g0 := iblk m c 9 t, e0 := iblk m c 10 t, g1 := iblk m c 11 t, e1 := iblk m c 12 t }

/-- The input blocks at point `n`. -/
def insAt (c : Dev nD) (n : ℕ) : Ins F :=
  insPt m c ⟨n % 192, by rw [show cfg0.N = 192 from N_0]; exact Nat.mod_lt _ (by decide)⟩

theorem insAt_eq (c : Dev nD) (t : Fin cfg0.N) : insAt m c t.val = insPt m c t :=
  congrArg (insPt m c) (Fin.ext (Nat.mod_eq_of_lt (Nat.lt_of_lt_of_eq t.isLt N_0)))

/-- The running sum of the first layer after `n` blocks. -/
def S1 (X : ℕ → Ins F) : ℕ → Vec F S1x256 .f32
  | 0 => k0_pay26
  | n + 1 => sum0 (X n) (S1 X n)

/-- The running sum of squares of the first layer after `n` blocks. -/
def Q1 (X : ℕ → Ins F) : ℕ → Vec F S1x256 .f32
  | 0 => k0_pay27
  | n + 1 => sq0 (X n) (Q1 X n)

/-- The second layer's rows of block `j`, before rounding. -/
def L1 (X : ℕ → Ins F) (j : ℕ) : FVec F S1024x256 .f32 :=
  layer1 (X (64 + j)) (S1 X 64) (Q1 X 64) (rows0 (X j))

/-- The second layer's rows of block `j`, as stored. -/
def R1 (X : ℕ → Ins F) (j : ℕ) : FVec F S1024x256 .bf16 :=
  rows1 (X (64 + j)) (S1 X 64) (Q1 X 64) (rows0 (X j))

/-- The running sum of the second layer after `n` blocks. -/
def S2 (X : ℕ → Ins F) : ℕ → Vec F S1x256 .f32
  | 0 => k0_pay3
  | n + 1 => k0_pay5 (L1 X n) (S2 X n)

/-- The running sum of squares of the second layer after `n` blocks. -/
def Q2 (X : ℕ → Ins F) : ℕ → Vec F S1x256 .f32
  | 0 => k0_pay4
  | n + 1 => k0_pay6 (L1 X n) (Q2 X n)

/-- The output block `j`. -/
def outBlk (X : ℕ → Ins F) (j : ℕ) : FVec F S1x256x1024 .f32 :=
  outOf (X (128 + j)) (S2 X 64) (Q2 X 64) (R1 X j)

/-- Block `j`'s rows lie in the hidden buffer. -/
theorem rows_inb (j : Fin 64) : ∀ a, (![1024 * j.val, 0] : Fin 2 → ℕ) a + S1024x256.size a ≤ S65536x256.size a := fun a => by
  have hj := j.isLt
  fin_cases a
  · show 1024 * j.val + 1024 ≤ 65536
    omega
  · show 0 + 256 ≤ 256
    omega

/-- Block `j`'s rows of the hidden buffer. -/
def rowsOf (j : Fin 64) (h : Vec F S65536x256 .bf16) : Vec F S1024x256 .bf16 :=
  VecWindow.window h ![1024 * j.val, 0] S1024x256.size (rows_inb j)

/-- Rows just stored read back. -/
theorem rowsOf_put_same (j : Fin 64) (h : Vec F S65536x256 .bf16) (w : Vec F S1024x256 .bf16) :
    rowsOf j (VecWindow.put h ![1024 * j.val, 0] S1024x256.size w) = w :=
  VecWindow.window_put_same (s := S65536x256) h _ _ _ w

/-- Storing one block's rows leaves the others'. -/
theorem rowsOf_put_other (j k : Fin 64) (hjk : j ≠ k) (h : Vec F S65536x256 .bf16) (w : Vec F S1024x256 .bf16) :
    rowsOf j (VecWindow.put h ![1024 * k.val, 0] S1024x256.size w) = rowsOf j h :=
  VecWindow.window_put_of_disjoint (s := S65536x256) h ![1024 * k.val, 0] S1024x256.size ![1024 * j.val, 0] S1024x256.size (rows_inb j) w 0 (by
    have hne : j.val ≠ k.val := fun e => hjk (Fin.ext e)
    show 1024 * j.val + 1024 ≤ 1024 * k.val ∨ 1024 * k.val + 1024 ≤ 1024 * j.val
    omega)

/-- What the carried buffers hold before point `n`: the first layer's sums over the blocks done in phase 0, the second layer's over those
    done in phase 1, and in each block's rows of the hidden buffer the layer last stored there. -/
structure Inv (X : ℕ → Ins F) (n : ℕ) (st : Scr F) : Prop where
  s1 : 0 < n → st.s1 = S1 X (min n 64)
  q1 : 0 < n → st.q1 = Q1 X (min n 64)
  s2 : 64 < n → st.s2 = S2 X (min (n - 64) 64)
  q2 : 64 < n → st.q2 = Q2 X (min (n - 64) 64)
  h0 : ∀ j : Fin 64, j.val < n → n ≤ j.val + 64 → rowsOf j st.h = rows0 (X j.val)
  h1 : ∀ j : Fin 64, j.val + 64 < n → rowsOf j st.h = R1 X j.val

/-- Nothing is asked before the first point. -/
theorem Inv.zero (X : ℕ → Ins F) (st : Scr F) : Inv X 0 st :=
  ⟨fun h => absurd h (by omega), fun h => absurd h (by omega), fun h => absurd h (by omega), fun h => absurd h (by omega),
    fun j h => absurd h (by omega), fun j h => absurd h (by omega)⟩

/-- A point of phase 0 carries the invariant on. -/
theorem Inv.phase0 (X : ℕ → Ins F) (n : ℕ) (hn : n < 64) (i : grid0.Coords) (hf : First i ↔ n % 64 = 0) (ho : k0_off1 i = ![1024 * (n % 64), 0])
    (st : Scr F) (h : Inv X n st) :
    Inv X (n + 1) (step0 (X n) i (start i k0_pay26 st.s1) (start i k0_pay27 st.q1) st) := by
  have e : n % 64 = n := Nat.mod_eq_of_lt hn
  have em : min (n + 1) 64 = n + 1 := by omega
  have es : start i k0_pay26 st.s1 = S1 X n := by
    rcases Nat.eq_zero_or_pos n with rfl | hp
    · exact (start_first (hf.mpr rfl) _ _).symm
    · rw [← start_next (fun hc => by have := hf.mp hc; omega) k0_pay26 st.s1, h.s1 hp, show min n 64 = n by omega]
  have eq : start i k0_pay27 st.q1 = Q1 X n := by
    rcases Nat.eq_zero_or_pos n with rfl | hp
    · exact (start_first (hf.mpr rfl) _ _).symm
    · rw [← start_next (fun hc => by have := hf.mp hc; omega) k0_pay27 st.q1, h.q1 hp, show min n 64 = n by omega]
  rw [es, eq]
  refine ⟨fun _ => ?_, fun _ => ?_, fun h => absurd h (by omega), fun h => absurd h (by omega), fun j hj hj' => ?_, fun j hj => absurd hj (by omega)⟩
  · rw [em]; rfl
  · rw [em]; rfl
  · show rowsOf j (VecWindow.put st.h (k0_off1 i) S1024x256.size (rows0 (X n))) = _
    rw [ho, e]
    by_cases hjn : j.val = n
    · subst hjn
      exact rowsOf_put_same j _ _
    · exact (rowsOf_put_other j ⟨n, hn⟩ (fun e => hjn (congrArg Fin.val e)) _ _).trans (h.h0 j (by omega) (by omega))

/-- The rows a point reads are its block's. -/
theorem rowsAt_eq (j : Fin 64) (i : grid0.Coords) (ho : k0_off1 i = ![1024 * j.val, 0])
    (hb : ∀ a, k0_off1 i a + S1024x256.size a ≤ S65536x256.size a) (h : Vec F S65536x256 .bf16) : rowsAt i h hb = rowsOf j h := by
  unfold rowsAt rowsOf VecWindow.window
  funext y
  exact congrArg h (funext fun a => Fin.ext (by
    show k0_off1 i a + 1 * (y a).val = (![1024 * j.val, 0] : Fin 2 → ℕ) a + 1 * (y a).val
    exact congrArg (· + 1 * (y a).val) (congrFun ho a)))

/-- A point of phase 1 carries the invariant on. -/
theorem Inv.phase1 (X : ℕ → Ins F) (k : ℕ) (hk : k < 64) (i : grid0.Coords) (hf : First i ↔ (64 + k) % 64 = 0) (ho : k0_off1 i = ![1024 * ((64 + k) % 64), 0])
    (hb : ∀ a, k0_off1 i a + S1024x256.size a ≤ S65536x256.size a) (st : Scr F) (h : Inv X (64 + k) st) :
    Inv X (64 + k + 1) (step1 (X (64 + k)) i hb (start i k0_pay3 st.s2) (start i k0_pay4 st.q2) st) := by
  have e : (64 + k) % 64 = k := by omega
  have em : min (64 + k + 1 - 64) 64 = k + 1 := by omega
  have e1 : min (64 + k) 64 = 64 := by omega
  have hs : st.s1 = S1 X 64 := by rw [h.s1 (by omega), e1]
  have hq : st.q1 = Q1 X 64 := by rw [h.q1 (by omega), e1]
  rw [e] at ho hf
  have hr : rowsAt i st.h hb = rows0 (X k) := (rowsAt_eq ⟨k, hk⟩ i ho hb st.h).trans (h.h0 ⟨k, hk⟩ (by show k < 64 + k; omega) (by show 64 + k ≤ k + 64; omega))
  have es : start i k0_pay3 st.s2 = S2 X k := by
    rcases Nat.eq_zero_or_pos k with rfl | hp
    · exact (start_first (hf.mpr rfl) _ _).symm
    · rw [← start_next (fun hc => by have := hf.mp hc; omega) k0_pay3 st.s2, h.s2 (by omega), show min (64 + k - 64) 64 = k by omega]
  have eq : start i k0_pay4 st.q2 = Q2 X k := by
    rcases Nat.eq_zero_or_pos k with rfl | hp
    · exact (start_first (hf.mpr rfl) _ _).symm
    · rw [← start_next (fun hc => by have := hf.mp hc; omega) k0_pay4 st.q2, h.q2 (by omega), show min (64 + k - 64) 64 = k by omega]
  unfold step1
  rw [es, eq, hr, hs, hq]
  refine ⟨fun _ => ?_, fun _ => ?_, fun _ => ?_, fun _ => ?_, fun j hj hj' => ?_, fun j hj => ?_⟩
  · rw [show min (64 + k + 1) 64 = 64 by omega]
    first | done | exact hs
  · rw [show min (64 + k + 1) 64 = 64 by omega]
    first | done | exact hq
  · rw [em]; rfl
  · rw [em]; rfl
  · show rowsOf j (VecWindow.put st.h (k0_off1 i) S1024x256.size _) = _
    rw [ho]
    exact (rowsOf_put_other j ⟨k, hk⟩ (fun e => by have := congrArg Fin.val e; simp only at this; omega) _ _).trans (h.h0 j (by omega) (by omega))
  · show rowsOf j (VecWindow.put st.h (k0_off1 i) S1024x256.size (rows1 (X (64 + k)) (S1 X 64) (Q1 X 64) (rows0 (X k)))) = _
    rw [ho]
    by_cases hjk : j.val = k
    · subst hjk
      exact rowsOf_put_same j _ _
    · exact (rowsOf_put_other j ⟨k, hk⟩ (fun e => hjk (congrArg Fin.val e)) _ _).trans (h.h1 j (by omega))

/-- A point of phase 2 changes nothing, -/
theorem Inv.phase2 (X : ℕ → Ins F) (k : ℕ) (hk : k < 64) (st : Scr F) (h : Inv X (128 + k) st) : Inv X (128 + k + 1) st :=
  ⟨fun _ => by rw [h.s1 (by omega), show min (128 + k) 64 = 64 by omega, show min (128 + k + 1) 64 = 64 by omega],
    fun _ => by rw [h.q1 (by omega), show min (128 + k) 64 = 64 by omega, show min (128 + k + 1) 64 = 64 by omega],
    fun _ => by rw [h.s2 (by omega), show min (128 + k - 64) 64 = 64 by omega, show min (128 + k + 1 - 64) 64 = 64 by omega],
    fun _ => by rw [h.q2 (by omega), show min (128 + k - 64) 64 = 64 by omega, show min (128 + k + 1 - 64) 64 = 64 by omega],
    fun j hj hj' => absurd hj' (by have := j.isLt; omega), fun j _ => h.h1 j (by have := j.isLt; omega)⟩

/-- and stores the output block. -/
theorem Inv.out (X : ℕ → Ins F) (k : ℕ) (hk : k < 64) (i : grid0.Coords) (ho : k0_off1 i = ![1024 * ((128 + k) % 64), 0])
    (hb : ∀ a, k0_off1 i a + S1024x256.size a ≤ S65536x256.size a) (st : Scr F) (h : Inv X (128 + k) st) :
    outOf (X (128 + k)) st.s2 st.q2 (rowsAt i st.h hb) = outBlk X k := by
  rw [show (128 + k) % 64 = k by omega] at ho
  rw [rowsAt_eq ⟨k, hk⟩ i ho hb, h.s2 (by omega), h.q2 (by omega), show min (128 + k - 64) 64 = 64 by omega,
    h.h1 ⟨k, hk⟩ (by show k + 64 < 128 + k; omega)]
  rfl

end Cert.KernelIdeal.Mega

end
-- ==== Proof.Run0.lean ====
module

public import proofs.«01_k».proof.Proof.Body

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S1x3x1024 .f32) (harg3 : arg3.IsWhole)
  (arg4 : Memref sig .tc .vmem S1x3x1024 .f32) (harg4 : arg4.IsWhole)
  (arg5 : Memref sig .tc .vmem S1x512x1024 .f32) (harg5 : arg5.IsWhole)
  (arg6 : Memref sig .tc .vmem S1x256x1024 .f32) (harg6 : arg6.IsWhole)
  (arg7 : Memref sig .tc .vmem S256x256 .f32) (harg7 : arg7.IsWhole)
  (arg8 : Memref sig .tc .vmem S256x512 .f32) (harg8 : arg8.IsWhole)
  (arg9 : Memref sig .tc .vmem S1x256 .f32) (harg9 : arg9.IsWhole)
  (arg10 : Memref sig .tc .vmem S256x256 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S1x256 .f32) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x256x1024 .f32) (harg16 : arg16.IsWhole)
  (arg17 : Memref sig .tc .vmem S65536x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)

set_option maxHeartbeats 2000000 in
/-- A point of phase 0: the rows are stored and the running sums of the first layer go on, from zero at the phase's first point. -/
theorem run0 (hc0 : k0_cond1 i = 1#1) (hc1 : ¬ k0_cond3 i = 1#1) (hc2 : ¬ k0_cond5 i = 1#1)
    (x : Ins F) (o : Vec F S1x256x1024 .f32) (s : Scr F) (E : Set ℕ) (K : PUnit → sProp 𝕄) :
    iprop(held c arg3 arg4 arg5 arg6 arg7 arg8 arg9 arg10 arg11 arg12 arg13 arg14 arg15 arg16 arg17 arg18 arg19 arg20 arg21 x o s ∗ (held c arg3 arg4 arg5 arg6 arg7 arg8 arg9 arg10 arg11 arg12 arg13 arg14 arg15 arg16 arg17 arg18 arg19 arg20 arg21 x o (step0 x i (start i k0_pay26 s.s1) (start i k0_pay27 s.q1) s) -∗ K ⟨⟩))
      ⊢ wp frame (wpE (defs₀ (F := F)) Variants.none c none) E (cc0__mega i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mega_eq_skeleton]; unfold cc0__mega_skel
  simp only [k0_part1_eq_skeleton, k0_part2_eq_skeleton, k0_part3_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18

  by_cases hc3 : First i <;> (
    sl_exec (disch := first | sl_exact hc0 | sl_exact hc1 | sl_exact hc2 | sl_exact hc3)
    sl_step
    iapply Hk
    isplitl [H0]
    · iexists _; isplitr; swap; iexact H0; ipureintro; exact harg3.read_unread _
    isplitl [H1]
    · iexists _; isplitr; swap; iexact H1; ipureintro; exact harg4.read_unread _
    isplitl [H2]
    · iexists _; isplitr; swap; iexact H2; ipureintro; exact harg5.read_unread _
    isplitl [H3]
    · iexists _; isplitr; swap; iexact H3; ipureintro; exact harg6.read_unread _
    isplitl [H4]
    · iexists _; isplitr; swap; iexact H4; ipureintro; exact harg7.read_unread _
    isplitl [H5]
    · iexists _; isplitr; swap; iexact H5; ipureintro; exact harg8.read_unread _
    isplitl [H6]
    · iexists _; isplitr; swap; iexact H6; ipureintro; exact harg9.read_unread _
    isplitl [H7]
    · iexists _; isplitr; swap; iexact H7; ipureintro; exact harg10.read_unread _
    isplitl [H8]
    · iexists _; isplitr; swap; iexact H8; ipureintro; exact harg11.read_unread _
    isplitl [H9]
    · iexists _; isplitr; swap; iexact H9; ipureintro; exact harg12.read_unread _
    isplitl [H10]
    · iexists _; isplitr; swap; iexact H10; ipureintro; exact harg13.read_unread _
    isplitl [H11]
    · iexists _; isplitr; swap; iexact H11; ipureintro; exact harg14.read_unread _
    isplitl [H12]
    · iexists _; isplitr; swap; iexact H12; ipureintro; exact harg15.read_unread _
    isplitl [H13]
    · iexists _; isplitr; swap; iexact H13; ipureintro; exact harg16.read_unread _
    isplitl [H14]
    · iexists _; isplitr; swap; iexact H14; ipureintro; refine (View.read_writes_cons_put _ _ _ _ [] rfl).trans ?_; refine congrArg₂ (fun (u : Vec F S65536x256 .bf16) (v : Vec F S1024x256 .bf16) => VecWindow.put u (k0_off1 i) S1024x256.size v) (harg17.read_unread s.h) ?_; (repeat first | delta run0.sl.r run0.sl.r_1 run0.sl.r_2 run0.sl.r_3 run0.sl.r_4 run0.sl.r_5 run0.sl.r_6 run0.sl.r_7 run0.sl.r_8 run0.sl.r_9 run0.sl.r_10 run0.sl.r_11 run0.sl.r_12 run0.sl.r_13 run0.sl.r_14 run0.sl.r_15 | delta run0.sl.r run0.sl.r_1 run0.sl.r_2 run0.sl.r_3 run0.sl.r_4 run0.sl.r_5 run0.sl.r_6 run0.sl.r_7 | delta run0.sl.v127 | delta run0.sl.v134); rw [load_whole arg3 harg3 x.pp, load_whole arg4 harg4 x.spp, load_whole arg5 harg5 x.sf, load_whole arg6 harg6 x.sk, load_whole arg7 harg7 x.wa, load_whole arg8 harg8 x.wb, load_whole arg9 harg9 x.b0]; rfl
    isplitl [H15]
    · iexists _; isplitr; swap; iexact H15; ipureintro; refine (View.read_writes_full _ _ _ _ _).trans ?_; (repeat first | delta run0.sl.r run0.sl.r_1 run0.sl.r_2 run0.sl.r_3 run0.sl.r_4 run0.sl.r_5 run0.sl.r_6 run0.sl.r_7 run0.sl.r_8 run0.sl.r_9 run0.sl.r_10 run0.sl.r_11 run0.sl.r_12 run0.sl.r_13 run0.sl.r_14 run0.sl.r_15 | delta run0.sl.r run0.sl.r_1 run0.sl.r_2 run0.sl.r_3 run0.sl.r_4 run0.sl.r_5 run0.sl.r_6 run0.sl.r_7 | delta run0.sl.v127 | delta run0.sl.v134); rw [load_whole arg3 harg3 x.pp, load_whole arg4 harg4 x.spp, load_whole arg5 harg5 x.sf, load_whole arg6 harg6 x.sk, load_whole arg7 harg7 x.wa, load_whole arg8 harg8 x.wb, load_whole arg9 harg9 x.b0]; refine congrArg (sum0 x) (?_ : _ = start i k0_pay26 s.s1); first | exact (load_whole arg18 harg18 s.s1 _).trans (start_next hc3 k0_pay26 s.s1) | exact (View.readCov_full _ _ _ _ _).trans (start_first hc3 k0_pay26 s.s1)
    isplitl [H16]
    · iexists _; isplitr; swap; iexact H16; ipureintro; refine (View.read_writes_full _ _ _ _ _).trans ?_; (repeat first | delta run0.sl.r run0.sl.r_1 run0.sl.r_2 run0.sl.r_3 run0.sl.r_4 run0.sl.r_5 run0.sl.r_6 run0.sl.r_7 run0.sl.r_8 run0.sl.r_9 run0.sl.r_10 run0.sl.r_11 run0.sl.r_12 run0.sl.r_13 run0.sl.r_14 run0.sl.r_15 | delta run0.sl.r run0.sl.r_1 run0.sl.r_2 run0.sl.r_3 run0.sl.r_4 run0.sl.r_5 run0.sl.r_6 run0.sl.r_7 | delta run0.sl.v127 | delta run0.sl.v134); rw [load_whole arg3 harg3 x.pp, load_whole arg4 harg4 x.spp, load_whole arg5 harg5 x.sf, load_whole arg6 harg6 x.sk, load_whole arg7 harg7 x.wa, load_whole arg8 harg8 x.wb, load_whole arg9 harg9 x.b0]; refine congrArg (sq0 x) (?_ : _ = start i k0_pay27 s.q1); first | exact (load_whole arg19 harg19 s.q1 _).trans (start_next hc3 k0_pay27 s.q1) | exact (View.readCov_full _ _ _ _ _).trans (start_first hc3 k0_pay27 s.q1)
    isplitl [H17]
    · iexists _; isplitr; swap; iexact H17; ipureintro; exact harg20.read_unread _
    · iexists _; isplitr; swap; iexact H18; ipureintro; exact harg21.read_unread _)

end Cert.KernelIdeal.Mega

end
-- ==== Proof.Run1.lean ====
module

public import proofs.«01_k».proof.Proof.Body

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S1x3x1024 .f32) (harg3 : arg3.IsWhole)
  (arg4 : Memref sig .tc .vmem S1x3x1024 .f32) (harg4 : arg4.IsWhole)
  (arg5 : Memref sig .tc .vmem S1x512x1024 .f32) (harg5 : arg5.IsWhole)
  (arg6 : Memref sig .tc .vmem S1x256x1024 .f32) (harg6 : arg6.IsWhole)
  (arg7 : Memref sig .tc .vmem S256x256 .f32) (harg7 : arg7.IsWhole)
  (arg8 : Memref sig .tc .vmem S256x512 .f32) (harg8 : arg8.IsWhole)
  (arg9 : Memref sig .tc .vmem S1x256 .f32) (harg9 : arg9.IsWhole)
  (arg10 : Memref sig .tc .vmem S256x256 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S1x256 .f32) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x256x1024 .f32) (harg16 : arg16.IsWhole)
  (arg17 : Memref sig .tc .vmem S65536x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)

set_option maxHeartbeats 2000000 in
/-- A point of phase 1: the rows are normalised, clipped at zero, multiplied by the second weight and stored over themselves, and the running sums of the second layer go on. -/
theorem run1 (hc0 : ¬ k0_cond1 i = 1#1) (hc1 : k0_cond3 i = 1#1) (hc2 : ¬ k0_cond5 i = 1#1)
    (hb : ∀ a, k0_off1 i a + S1024x256.size a ≤ S65536x256.size a)
    (x : Ins F) (o : Vec F S1x256x1024 .f32) (s : Scr F) (E : Set ℕ) (K : PUnit → sProp 𝕄) :
    iprop(held c arg3 arg4 arg5 arg6 arg7 arg8 arg9 arg10 arg11 arg12 arg13 arg14 arg15 arg16 arg17 arg18 arg19 arg20 arg21 x o s ∗ (held c arg3 arg4 arg5 arg6 arg7 arg8 arg9 arg10 arg11 arg12 arg13 arg14 arg15 arg16 arg17 arg18 arg19 arg20 arg21 x o (step1 x i hb (start i k0_pay3 s.s2) (start i k0_pay4 s.q2) s) -∗ K ⟨⟩))
      ⊢ wp frame (wpE (defs₀ (F := F)) Variants.none c none) E (cc0__mega i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mega_eq_skeleton]; unfold cc0__mega_skel
  simp only [k0_part4_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18

  by_cases hc3 : First i <;> (
    sl_exec (disch := first | sl_exact hc0 | sl_exact hc1 | sl_exact hc2 | sl_exact hc3)
    sl_step
    iapply Hk
    isplitl [H0]
    · iexists _; isplitr; swap; iexact H0; ipureintro; exact harg3.read_unread _
    isplitl [H1]
    · iexists _; isplitr; swap; iexact H1; ipureintro; exact harg4.read_unread _
    isplitl [H2]
    · iexists _; isplitr; swap; iexact H2; ipureintro; exact harg5.read_unread _
    isplitl [H3]
    · iexists _; isplitr; swap; iexact H3; ipureintro; exact harg6.read_unread _
    isplitl [H4]
    · iexists _; isplitr; swap; iexact H4; ipureintro; exact harg7.read_unread _
    isplitl [H5]
    · iexists _; isplitr; swap; iexact H5; ipureintro; exact harg8.read_unread _
    isplitl [H6]
    · iexists _; isplitr; swap; iexact H6; ipureintro; exact harg9.read_unread _
    isplitl [H7]
    · iexists _; isplitr; swap; iexact H7; ipureintro; exact harg10.read_unread _
    isplitl [H8]
    · iexists _; isplitr; swap; iexact H8; ipureintro; exact harg11.read_unread _
    isplitl [H9]
    · iexists _; isplitr; swap; iexact H9; ipureintro; exact harg12.read_unread _
    isplitl [H10]
    · iexists _; isplitr; swap; iexact H10; ipureintro; exact harg13.read_unread _
    isplitl [H11]
    · iexists _; isplitr; swap; iexact H11; ipureintro; exact harg14.read_unread _
    isplitl [H12]
    · iexists _; isplitr; swap; iexact H12; ipureintro; exact harg15.read_unread _
    isplitl [H13]
    · iexists _; isplitr; swap; iexact H13; ipureintro; exact harg16.read_unread _
    isplitl [H14]
    · iexists _; isplitr; swap; iexact H14; ipureintro; refine (View.read_writes_cons_put _ _ _ _ [] rfl).trans ?_; refine congrArg₂ (fun (u : Vec F S65536x256 .bf16) (v : Vec F S1024x256 .bf16) => VecWindow.put u (k0_off1 i) S1024x256.size v) (harg17.read_unread s.h) ?_; rw [View.readAt_unit arg17.view (harg17.unread s.h) (k0_off2_inb i hc1) rfl hb, harg17.read_unread s.h]; rw [load_whole arg18 harg18 s.s1, load_whole arg19 harg19 s.q1, load_whole arg12 harg12 x.g0, load_whole arg13 harg13 x.e0, load_whole arg10 harg10 x.w1, load_whole arg11 harg11 x.b1]; rfl
    isplitl [H15]
    · iexists _; isplitr; swap; iexact H15; ipureintro; exact harg18.read_unread _
    isplitl [H16]
    · iexists _; isplitr; swap; iexact H16; ipureintro; exact harg19.read_unread _
    isplitl [H17]
    · iexists _; isplitr; swap; iexact H17; ipureintro; refine (View.read_writes_full _ _ _ _ _).trans ?_; (repeat first | delta run1.sl.r run1.sl.r_1 | delta run1.sl.r | delta run1.sl.v55 | delta run1.sl.v62); rw [View.readAt_unit arg17.view (harg17.unread s.h) (k0_off2_inb i hc1) rfl hb, harg17.read_unread s.h]; rw [load_whole arg18 harg18 s.s1, load_whole arg19 harg19 s.q1, load_whole arg12 harg12 x.g0, load_whole arg13 harg13 x.e0, load_whole arg10 harg10 x.w1, load_whole arg11 harg11 x.b1]; refine congrArg (k0_pay5 (layer1 x s.s1 s.q1 (rowsAt i s.h hb))) (?_ : _ = start i k0_pay3 s.s2); first | exact (load_whole arg20 harg20 s.s2 _).trans (start_next hc3 k0_pay3 s.s2) | exact (View.readCov_full _ _ _ _ _).trans (start_first hc3 k0_pay3 s.s2)
    · iexists _; isplitr; swap; iexact H18; ipureintro; refine (View.read_writes_full _ _ _ _ _).trans ?_; (repeat first | delta run1.sl.r run1.sl.r_1 | delta run1.sl.r | delta run1.sl.v55 | delta run1.sl.v62); rw [View.readAt_unit arg17.view (harg17.unread s.h) (k0_off2_inb i hc1) rfl hb, harg17.read_unread s.h]; rw [load_whole arg18 harg18 s.s1, load_whole arg19 harg19 s.q1, load_whole arg12 harg12 x.g0, load_whole arg13 harg13 x.e0, load_whole arg10 harg10 x.w1, load_whole arg11 harg11 x.b1]; refine congrArg (k0_pay6 (layer1 x s.s1 s.q1 (rowsAt i s.h hb))) (?_ : _ = start i k0_pay4 s.q2); first | exact (load_whole arg21 harg21 s.q2 _).trans (start_next hc3 k0_pay4 s.q2) | exact (View.readCov_full _ _ _ _ _).trans (start_first hc3 k0_pay4 s.q2))

end Cert.KernelIdeal.Mega

end
-- ==== Proof.Run2.lean ====
module

public import proofs.«01_k».proof.Proof.Body

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg3 : Memref sig .tc .vmem S1x3x1024 .f32) (harg3 : arg3.IsWhole)
  (arg4 : Memref sig .tc .vmem S1x3x1024 .f32) (harg4 : arg4.IsWhole)
  (arg5 : Memref sig .tc .vmem S1x512x1024 .f32) (harg5 : arg5.IsWhole)
  (arg6 : Memref sig .tc .vmem S1x256x1024 .f32) (harg6 : arg6.IsWhole)
  (arg7 : Memref sig .tc .vmem S256x256 .f32) (harg7 : arg7.IsWhole)
  (arg8 : Memref sig .tc .vmem S256x512 .f32) (harg8 : arg8.IsWhole)
  (arg9 : Memref sig .tc .vmem S1x256 .f32) (harg9 : arg9.IsWhole)
  (arg10 : Memref sig .tc .vmem S256x256 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S1x256 .f32) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S1x256x1024 .f32) (harg16 : arg16.IsWhole)
  (arg17 : Memref sig .tc .vmem S65536x256 .bf16) (harg17 : arg17.IsWhole)
  (arg18 : Memref sig .tc .vmem S1x256 .f32) (harg18 : arg18.IsWhole)
  (arg19 : Memref sig .tc .vmem S1x256 .f32) (harg19 : arg19.IsWhole)
  (arg20 : Memref sig .tc .vmem S1x256 .f32) (harg20 : arg20.IsWhole)
  (arg21 : Memref sig .tc .vmem S1x256 .f32) (harg21 : arg21.IsWhole)

set_option maxHeartbeats 2000000 in
/-- A point of phase 2: the rows are normalised, clipped at zero and stored, transposed, to the output block. -/
theorem run2 (hc0 : ¬ k0_cond1 i = 1#1) (hc1 : ¬ k0_cond3 i = 1#1) (hc2 : k0_cond5 i = 1#1)
    (hb : ∀ a, k0_off1 i a + S1024x256.size a ≤ S65536x256.size a)
    (x : Ins F) (o : Vec F S1x256x1024 .f32) (s : Scr F) (E : Set ℕ) (K : PUnit → sProp 𝕄) :
    iprop(held c arg3 arg4 arg5 arg6 arg7 arg8 arg9 arg10 arg11 arg12 arg13 arg14 arg15 arg16 arg17 arg18 arg19 arg20 arg21 x o s ∗ (held c arg3 arg4 arg5 arg6 arg7 arg8 arg9 arg10 arg11 arg12 arg13 arg14 arg15 arg16 arg17 arg18 arg19 arg20 arg21 x (outOf x s.s2 s.q2 (rowsAt i s.h hb)) (s) -∗ K ⟨⟩))
      ⊢ wp frame (wpE (defs₀ (F := F)) Variants.none c none) E (cc0__mega i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mega_eq_skeleton]; unfold cc0__mega_skel
  skip
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18

  sl_exec (disch := first | sl_exact hc0 | sl_exact hc1 | sl_exact hc2 | sl_exact hc3)
  sl_step
  iapply Hk
  isplitl [H0]
  · iexists _; isplitr; swap; iexact H0; ipureintro; exact harg3.read_unread _
  isplitl [H1]
  · iexists _; isplitr; swap; iexact H1; ipureintro; exact harg4.read_unread _
  isplitl [H2]
  · iexists _; isplitr; swap; iexact H2; ipureintro; exact harg5.read_unread _
  isplitl [H3]
  · iexists _; isplitr; swap; iexact H3; ipureintro; exact harg6.read_unread _
  isplitl [H4]
  · iexists _; isplitr; swap; iexact H4; ipureintro; exact harg7.read_unread _
  isplitl [H5]
  · iexists _; isplitr; swap; iexact H5; ipureintro; exact harg8.read_unread _
  isplitl [H6]
  · iexists _; isplitr; swap; iexact H6; ipureintro; exact harg9.read_unread _
  isplitl [H7]
  · iexists _; isplitr; swap; iexact H7; ipureintro; exact harg10.read_unread _
  isplitl [H8]
  · iexists _; isplitr; swap; iexact H8; ipureintro; exact harg11.read_unread _
  isplitl [H9]
  · iexists _; isplitr; swap; iexact H9; ipureintro; exact harg12.read_unread _
  isplitl [H10]
  · iexists _; isplitr; swap; iexact H10; ipureintro; exact harg13.read_unread _
  isplitl [H11]
  · iexists _; isplitr; swap; iexact H11; ipureintro; exact harg14.read_unread _
  isplitl [H12]
  · iexists _; isplitr; swap; iexact H12; ipureintro; exact harg15.read_unread _
  isplitl [H13]
  · iexists _; isplitr; swap; iexact H13; ipureintro; refine (View.read_writes_full _ _ _ _ _).trans ?_; rw [View.readAt_unit arg17.view (harg17.unread s.h) (k0_off3_inb i hc2) rfl hb, harg17.read_unread s.h]; rw [load_whole arg20 harg20 s.s2, load_whole arg21 harg21 s.q2, load_whole arg14 harg14 x.g1, load_whole arg15 harg15 x.e1]; rfl
  isplitl [H14]
  · iexists _; isplitr; swap; iexact H14; ipureintro; exact harg17.read_unread _
  isplitl [H15]
  · iexists _; isplitr; swap; iexact H15; ipureintro; exact harg18.read_unread _
  isplitl [H16]
  · iexists _; isplitr; swap; iexact H16; ipureintro; exact harg19.read_unread _
  isplitl [H17]
  · iexists _; isplitr; swap; iexact H17; ipureintro; exact harg20.read_unread _
  · iexists _; isplitr; swap; iexact H18; ipureintro; exact harg21.read_unread _

end Cert.KernelIdeal.Mega

end
-- ==== Proof.Launch.lean ====
module

public import proofs.«01_k».proof.Proof.State
public import proofs.«01_k».proof.Proof.Run0
public import proofs.«01_k».proof.Proof.Run1
public import proofs.«01_k».proof.Proof.Run2
public import Idealize.ShloMosaic.Lib.Claim

@[expose] public section

set_option maxRecDepth 16384

noncomputable section

namespace Cert.KernelIdeal.Mega

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The region invariant before point `n`: the carried buffers hold what `Inv` says, the generator register anything. -/
def Phi (c : Dev nD) (n : ℕ) : sProp 𝕄 :=
  iprop(∃ st : Scr F, ⌜Inv (insAt m c) n st⌝ ∗ (owns (c : Thread nD τ) (Memref.whole cc0_scratch0 : Memref sig .tc .vmem S65536x256 .bf16) fullShare st.h ∗ owns (c : Thread nD τ) (Memref.whole cc0_scratch1 : Memref sig .tc .vmem S1x256 .f32) fullShare st.s1 ∗ owns (c : Thread nD τ) (Memref.whole cc0_scratch2 : Memref sig .tc .vmem S1x256 .f32) fullShare st.q1 ∗ owns (c : Thread nD τ) (Memref.whole cc0_scratch3 : Memref sig .tc .vmem S1x256 .f32) fullShare st.s2 ∗ owns (c : Thread nD τ) (Memref.whole cc0_scratch4 : Memref sig .tc .vmem S1x256 .f32) fullShare st.q2) ∗ (∃ r, prngReg c r))

/-- The proof data: the arrays as the region finds them, each input's buffer at its block, the output's at `outBlk`, the invariant `Phi`, nothing
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk (insAt m c) (t.val - 128)
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlk (insAt m c) (t.val - 128) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (win0_9.stage (cfg0.slots t 9)) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (win0_10.stage (cfg0.slots t 10)) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (win0_11.stage (cfg0.slots t 11)) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (win0_12.stage (cfg0.slots t 12)) fullShare (iblk m c 12 t) := by
  unfold Dat.leavesExact; rw [show cfg0.idle 12 (grid0.coords t) = false from rfl, after_12]

/-- What the launch hands the region is the invariant before the first point, -/
theorem PhiA_eq (c : Dev nD) :
    (Pipeline.ΦA spec0 c : sProp 𝕄) = iprop(iprop((∃ d, owns (c : Thread nD τ) (Memref.whole cc0_scratch0 : Memref sig .tc .vmem S65536x256 .bf16) fullShare d) ∗ (∃ d, owns (c : Thread nD τ) (Memref.whole cc0_scratch1 : Memref sig .tc .vmem S1x256 .f32) fullShare d) ∗ (∃ d, owns (c : Thread nD τ) (Memref.whole cc0_scratch2 : Memref sig .tc .vmem S1x256 .f32) fullShare d) ∗ (∃ d, owns (c : Thread nD τ) (Memref.whole cc0_scratch3 : Memref sig .tc .vmem S1x256 .f32) fullShare d) ∗ (∃ d, owns (c : Thread nD τ) (Memref.whole cc0_scratch4 : Memref sig .tc .vmem S1x256 .f32) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Phi m c 0 from rfl, PhiA_eq]
  unfold Phi
  iintro ⟨⟨⟨%a0, H0⟩, ⟨%a1, H1⟩, ⟨%a2, H2⟩, ⟨%a3, H3⟩, ⟨%a4, H4⟩⟩, Hg⟩
  iexists (⟨a0, a1, a2, a3, a4⟩ : Scr F)
  isplitr
  · ipureintro; exact Inv.zero _ _
  isplitl [H0 H1 H2 H3 H4]
  · isplitl [H0]; · iexact H0
    isplitl [H1]; · iexact H1
    isplitl [H2]; · iexact H2
    isplitl [H3]; · iexact H3
    iexact H4
  iexact Hg

/-- and what the invariant after the last point gives back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨%st, %hst, ⟨H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- What the body holds at point `t`: `held` at the point's memrefs. -/
abbrev heldAt (c : Dev nD) (t : Fin cfg0.N) (o : Vec F S1x256x1024 .f32) (st : Scr F) : sProp 𝕄 :=
  held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (Memref.whole cc0_scratch0) (Memref.whole cc0_scratch1) (Memref.whole cc0_scratch2) (Memref.whole cc0_scratch3) (Memref.whole cc0_scratch4) (insAt m c t.val) o st

set_option maxHeartbeats 1000000 in
/-- A run of the body at a point that keeps the invariant and leaves the output's buffer as the proof data say is sound there. -/
theorem sound_of (c : Dev nD) (t : Fin cfg0.N)
    (hrun : ∀ (st : Scr F) (d), Inv (insAt m c) t.val st → ∃ (o : Vec F S1x256x1024 .f32) (st' : Scr F), Inv (insAt m c) (t.val + 1) st'
      ∧ (owns (c : Thread nD τ) (win0_13.stage (cfg0.slots t 13)) fullShare o ⊢ (dats m 0 c).leavesExact 13 t)
      ∧ ∀ K : PUnit → sProp 𝕄, iprop(heldAt m c t ((dats m 0 c).before 13 t d) st ∗ (heldAt m c t o st' -∗ K ⟨⟩))
          ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [show (dats m 0 c).owesAt () t.succ = (dats m 0 c).owesAt () t.castSucc from rfl,
    show (dats m 0 c).Φ t.succ = Phi m c (t.val + 1) from rfl, show (dats m 0 c).Φ t.castSucc = Phi m c t.val from rfl]
  unfold Phi
  iintro ⟨⟨%st, %hst, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain ⟨o, st', hinv, h13, hwp⟩ := hrun st d13 hst
  iapply (hwp _)
  isplitl [H0 H1 H2 H3 H4 H5 H6 H7 H8 H9 H10 H11 H12 H13 HS0 HS1 HS2 HS3 HS4]
  · unfold heldAt held
    rw [insAt_eq]; unfold insPt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    iexact HS4
  unfold heldAt held
  rw [insAt_eq]; unfold insPt
  iintro ⟨H0, H1, H2, H3, H4, H5, H6, H7, H8, H9, H10, H11, H12, H13, HS0, HS1, HS2, HS3, HS4⟩
  isplitl [HS0 HS1 HS2 HS3 HS4 Hg]
  · iexists st'
    isplitr
    · ipureintro; exact hinv
    isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply h13
  iexact H13

/-- A point's rows lie in the hidden buffer. -/
theorem off_inb (t : Fin cfg0.N) : ∀ a, k0_off1 (grid0.coords t) a + S1024x256.size a ≤ S65536x256.size a := by
  rw [off_eq]
  exact rows_inb ⟨t.val % 64, Nat.mod_lt _ (by decide)⟩

/-- Outside phase 2 the output's buffer goes back as it came. -/
theorem leaves_idle (c : Dev nD) (t : Fin cfg0.N) (ht : t.val < 128) (d) :
    owns (c : Thread nD τ) (win0_13.stage (cfg0.slots t 13)) fullShare ((dats m 0 c).before 13 t d) ⊢ (dats m 0 c).leavesExact 13 t := by
  rw [Dat.leavesExact_idle (dats m 0 c) 13 t (idle13 t ht) (noFlush13 t ht)]
  iintro H
  iexists d
  iexact H

/-- In phase 2 it holds the output block. -/
theorem leaves_live (c : Dev nD) (t : Fin cfg0.N) (ht : 128 ≤ t.val) :
    owns (c : Thread nD τ) (win0_13.stage (cfg0.slots t 13)) fullShare (outBlk (insAt m c) (t.val - 128)) ⊢ (dats m 0 c).leavesExact 13 t := by
  rw [show (dats m 0 c).leavesExact 13 t = owns (c : Thread nD τ) (win0_13.stage (cfg0.slots t 13)) fullShare ((dats m 0 c).after 13 t) from by
    unfold Dat.leavesExact; rw [live13 t ht], after_13]

/-- The body is sound at every point. -/
theorem sound_body (c : Dev nD) (t : Fin cfg0.N) :
    bodyPre m c t ⊢ wp frame (wpE (defs₀ (F := F)) Variants.none c none) Set.univ (bodyAt0 t) (fun _ => bodyPost m c t) := by
  have hN : t.val < 192 := Nat.lt_of_lt_of_eq t.isLt N_0
  refine sound_of m c t fun st d hst => ?_
  by_cases h0 : t.val < 64
  · refine ⟨_, _, Inv.phase0 _ t.val h0 (grid0.coords t) (first_iff t) (off_eq t) st hst, leaves_idle m c t (by omega) d, fun K => ?_⟩
    exact run0 c (grid0.coords t) _ _ _ _ _ _ _ _ _ _ _ _ _ _ _ _ _ _ _ _ _ _ _ _ _ _ _ _ _ _ _ _ _ _ _ _ _ _ ((phase0_iff t).mpr h0) (fun h => by have := (phase1_iff t).mp h; omega)
      (fun h => by have := (phase2_iff t).mp h; omega) _ _ _ _ K
  by_cases h1 : t.val < 128
  · obtain ⟨k, hk⟩ : ∃ k, t.val = 64 + k := ⟨t.val - 64, by omega⟩
    have hf := first_iff t
    have ho := off_eq t
    rw [hk] at hf ho hst
    have hinv := Inv.phase1 _ k (by omega) (grid0.coords t) hf ho (off_inb t) st hst
    rw [← hk] at hinv
    refine ⟨_, _, hinv, leaves_idle m c t h1 d, fun K => ?_⟩
    exact run1 c (grid0.coords t) _ _ _ _ _ _ _ _ _ _ _ _ _ _ _ _ _ _ _ _ _ _ _ _ _ _ _ _ _ _ _ _ _ _ _ _ _ _ (fun h => h0 ((phase0_iff t).mp h)) ((phase1_iff t).mpr (by omega))
      (fun h => by have := (phase2_iff t).mp h; omega) (off_inb t) _ _ _ _ K
  · obtain ⟨k, hk⟩ : ∃ k, t.val = 128 + k := ⟨t.val - 128, by omega⟩
    have ho := off_eq t
    rw [hk] at ho hst
    have hinv := Inv.phase2 _ k (by omega) st hst
    have hout := Inv.out _ k (by omega) (grid0.coords t) ho (off_inb t) st hst
    have hl := leaves_live m c t (by omega)
    rw [show t.val - 128 = k by omega, ← hout, ← hk] at hl
    rw [← hk] at hinv
    refine ⟨_, _, hinv, hl, fun K => ?_⟩
    exact run2 c (grid0.coords t) _ _ _ _ _ _ _ _ _ _ _ _ _ _ _ _ _ _ _ _ _ _ _ _ _ _ _ _ _ _ _ _ _ _ _ _ _ _ (fun h => h0 ((phase0_iff t).mp h)) (fun h => by have := (phase1_iff t).mp h; omega)
      ((phase2_iff t).mpr (by omega)) (off_inb t) _ _ _ _ K

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every weakly fair execution terminates, with every array of the pipeline at what the proof data compute and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Mega

end
-- ==== Proof.Spec.lean ====
module

public import Idealize.ShloMosaic.Lib.Pointwise

@[expose] public section

set_option maxRecDepth 16384

noncomputable section

namespace Cert.Spec

open Idealize.ShloMosaic

/-! ## The three nearest of a row of distances -/

/-- `a` comes before `b`: it is nearer, or as near at a lower index. -/
def Before (d : Fin 1024 → ℝ) (a b : Fin 1024) : Prop := d a < d b ∨ (d a = d b ∧ a < b)

/-- `j` is the first of those outside `s`. -/
def Next (d : Fin 1024 → ℝ) (s : Finset (Fin 1024)) (j : Fin 1024) : Prop := j ∉ s ∧ ∀ a, a ∉ s → a ≠ j → Before d j a

/-- There is only one first. -/
theorem Next.unique {d : Fin 1024 → ℝ} {s : Finset (Fin 1024)} {j k : Fin 1024} (hj : Next d s j) (hk : Next d s k) : j = k := by
  by_contra hne
  rcases hj.2 k hk.1 (Ne.symm hne) with h1 | ⟨h1, h1'⟩ <;> rcases hk.2 j hj.1 hne with h2 | ⟨h2, h2'⟩
  · exact lt_asymm h1 h2
  · exact absurd h1 (by rw [h2]; exact lt_irrefl _)
  · exact absurd h2 (by rw [h1]; exact lt_irrefl _)
  · exact lt_asymm h1' h2'

/-- The first is among the nearest of those outside `s`. -/
theorem Next.le {d : Fin 1024 → ℝ} {s : Finset (Fin 1024)} {j : Fin 1024} (hj : Next d s j) (a : Fin 1024) (ha : a ∉ s) : d j ≤ d a := by
  by_cases h : a = j
  · rw [h]
  · rcases hj.2 a ha h with h1 | ⟨h1, _⟩
    · exact le_of_lt h1
    · exact le_of_eq h1

/-- Among those as near as it, the first has the lowest index. -/
theorem Next.le_index {d : Fin 1024 → ℝ} {s : Finset (Fin 1024)} {j : Fin 1024} (hj : Next d s j) (a : Fin 1024) (ha : a ∉ s) (e : d a = d j) :
    j ≤ a := by
  by_cases h : a = j
  · rw [h]
  · rcases hj.2 a ha h with h1 | ⟨_, h1⟩
    · exact absurd h1 (by rw [e]; exact lt_irrefl _)
    · exact le_of_lt h1

/-- There is a first as long as something is left. -/
theorem exists_next (d : Fin 1024 → ℝ) (s : Finset (Fin 1024)) (hs : ∃ a, a ∉ s) : ∃ j, Next d s j := by
  classical
  obtain ⟨a0, ha0⟩ := hs
  obtain ⟨m, hm, hmin⟩ := Finset.exists_min_image (Finset.univ.filter fun a => a ∉ s) d ⟨a0, by simpa using ha0⟩
  obtain ⟨j, hj, hjmin⟩ := Finset.exists_min_image (Finset.univ.filter fun a => a ∉ s ∧ d a = d m) id ⟨m, by simpa using hm⟩
  simp only [Finset.mem_filter, Finset.mem_univ, true_and, id] at hm hmin hj hjmin
  refine ⟨j, hj.1, fun a ha hne => ?_⟩
  rcases lt_or_eq_of_le (hmin a ha) with h | h
  · exact Or.inl (by rw [hj.2]; exact h)
  · exact Or.inr ⟨by rw [hj.2]; exact h, lt_of_le_of_ne (hjmin a ⟨ha, h.symm⟩) (Ne.symm hne)⟩

open Classical in
/-- The first of those outside `s`. -/
def next (d : Fin 1024 → ℝ) (s : Finset (Fin 1024)) : Fin 1024 := if h : ∃ j, Next d s j then h.choose else 0

theorem next_spec (d : Fin 1024 → ℝ) (s : Finset (Fin 1024)) (hs : ∃ a, a ∉ s) : Next d s (next d s) := by
  have h := exists_next d s hs
  unfold next
  rw [dif_pos h]
  exact h.choose_spec

/-- Whatever is first is `next`. -/
theorem Next.eq {d : Fin 1024 → ℝ} {s : Finset (Fin 1024)} {j : Fin 1024} (hj : Next d s j) : next d s = j :=
  (next_spec d s ⟨j, hj.1⟩).unique hj

/-- The nearest. -/
def n0 (d : Fin 1024 → ℝ) : Fin 1024 := next d ∅
/-- The second nearest. -/
def n1 (d : Fin 1024 → ℝ) : Fin 1024 := next d {n0 d}
/-- The third nearest. -/
def n2 (d : Fin 1024 → ℝ) : Fin 1024 := next d {n1 d, n0 d}

theorem exists_not_mem (s : Finset (Fin 1024)) (h : s.card < 1024) : ∃ a, a ∉ s := by
  by_contra hc
  have : s = Finset.univ := Finset.eq_univ_iff_forall.mpr fun a => by by_contra h'; exact hc ⟨a, h'⟩
  rw [this, Finset.card_univ, Fintype.card_fin] at h
  exact absurd h (lt_irrefl _)

theorem n0_spec (d : Fin 1024 → ℝ) : Next d ∅ (n0 d) := next_spec d _ (exists_not_mem _ (by simp))
theorem n1_spec (d : Fin 1024 → ℝ) : Next d {n0 d} (n1 d) := next_spec d _ (exists_not_mem _ (by simp))
theorem n2_spec (d : Fin 1024 → ℝ) : Next d {n1 d, n0 d} (n2 d) :=
  next_spec d _ (exists_not_mem _ (lt_of_le_of_lt (Finset.card_le_two) (by norm_num)))

/-- The three nearest, nearest first. -/
def near (d : Fin 1024 → ℝ) : Fin 3 → Fin 1024 := ![n0 d, n1 d, n2 d]

/-! ## The literals -/

/-- What is added to a distance before it is inverted: the value of the word `0x322BCC77`. -/
def eps8 : ℝ := 11258999 * (2 : ℝ) ^ (-50 : ℤ)
/-- What is added to a variance before its root: the value of the word `0x3727C5AC`. -/
def eps5 : ℝ := 10995116 * (2 : ℝ) ^ (-40 : ℤ)

theorem eps8_pos : 0 < eps8 := by unfold eps8; positivity
theorem eps5_pos : 0 < eps5 := by unfold eps5; positivity

theorem ofBits_eps8 : Ideal.ofBits .f32 0x322BCC77#32 = (eps8 : EReal) := by
  unfold eps8
  simp [Ideal.ofBits, Ideal.ieee, -EReal.coe_mul]
theorem ofBits_eps5 : Ideal.ofBits .f32 0x3727C5AC#32 = (eps5 : EReal) := by
  unfold eps5
  simp [Ideal.ofBits, Ideal.ieee, -EReal.coe_mul]
theorem ofBits_neg_two : Ideal.ofBits .f32 0xC0000000#32 = ((-2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_65536 : Ideal.ofBits .f32 0x47800000#32 = ((65536 : ℝ) : EReal) := by
  simp [Ideal.ofBits, Ideal.ieee, -EReal.coe_mul]; norm_num
theorem ofBits_inv_65536 : Ideal.ofBits .f32 0x37800000#32 = ((1 / 65536 : ℝ) : EReal) := by
  simp [Ideal.ofBits, Ideal.ieee, -EReal.coe_mul]; norm_num
theorem ofBits_top : Ideal.ofBits .f32 0x7F800000#32 = ⊤ := by
  simp [Ideal.ofBits, Ideal.ieee]

/-! ## The function computed -/

/-- Squared distance, as computed: `-2 p·q + |p|² + |q|²`. -/
def sqdist (p q : Fin 3 → ℝ) : ℝ := -2 * (∑ k, p k * q k) + (∑ k, p k * p k) + ∑ k, q k * q k

theorem sqdist_nonneg (p q : Fin 3 → ℝ) : 0 ≤ sqdist p q := by
  have : sqdist p q = ∑ k, (p k - q k) * (p k - q k) := by
    unfold sqdist
    rw [Finset.mul_sum, ← Finset.sum_add_distrib, ← Finset.sum_add_distrib]
    exact Finset.sum_congr rfl fun k _ => by ring
  rw [this]
  exact Finset.sum_nonneg fun k _ => mul_self_nonneg _

/-- The distances from one point to 1024 others. -/
def dst (p : Fin 3 → ℝ) (q : Fin 1024 → Fin 3 → ℝ) (l : Fin 1024) : ℝ := sqdist p (q l)

theorem dst_nonneg (p : Fin 3 → ℝ) (q : Fin 1024 → Fin 3 → ℝ) (a : Fin 1024) : 0 ≤ dst p q a := sqdist_nonneg _ _

/-- The weight of the `k`-th nearest before normalising. -/
def wt (d : Fin 1024 → ℝ) (k : Fin 3) : ℝ := 1 / (d (near d k) + eps8)

/-- The features of the three nearest, averaged with normalised weights. -/
def interp (d : Fin 1024 → ℝ) (f : Fin 1024 → ℝ) : ℝ := ∑ k, f (near d k) * (wt d k / ∑ l, wt d l)

/-- One layer's linear map at one row. -/
def first (sk : Fin 256 → ℝ) (it : Fin 512 → ℝ) (w : Fin 768 → ℝ) (b : ℝ) : ℝ :=
  ((∑ c : Fin 256, sk c * w ⟨c.val, by omega⟩) + ∑ c : Fin 512, it c * w ⟨256 + c.val, by omega⟩) + b

/-- The mean over all rows. -/
def mean (h : Fin 16 → Fin 4096 → ℝ) : ℝ := (∑ b, ∑ n, h b n) / 65536
/-- The variance over all rows. -/
def var (h : Fin 16 → Fin 4096 → ℝ) : ℝ := (∑ b, ∑ n, (h b n - mean h) * (h b n - mean h)) / 65536
/-- Normalise over all rows, scale, shift, and cut at zero. -/
def norm (h : Fin 16 → Fin 4096 → ℝ) (g e : ℝ) (b : Fin 16) (n : Fin 4096) : ℝ :=
  max ((h b n - mean h) / Real.sqrt (var h + eps5) * g + e) 0

theorem var_nonneg (h : Fin 16 → Fin 4096 → ℝ) : 0 ≤ var h :=
  div_nonneg (Finset.sum_nonneg fun b _ => Finset.sum_nonneg fun n _ => mul_self_nonneg _) (by norm_num)

/-- The variance is the mean square less the squared mean. -/
theorem var_eq (h : Fin 16 → Fin 4096 → ℝ) : (∑ b, ∑ n, h b n * h b n) / 65536 - mean h * mean h = var h := by
  have e : ∀ μ : ℝ, (∑ b : Fin 16, ∑ n : Fin 4096, (h b n - μ) * (h b n - μ))
      = (∑ b, ∑ n, h b n * h b n) - 2 * μ * (∑ b, ∑ n, h b n) + 65536 * (μ * μ) := fun μ => by
    have h1 : ∀ b n, (h b n - μ) * (h b n - μ) = h b n * h b n - 2 * μ * h b n + μ * μ := fun b n => by ring
    simp only [h1, Finset.sum_add_distrib, Finset.sum_sub_distrib, Finset.mul_sum, Finset.sum_const, Finset.card_univ, Fintype.card_fin, nsmul_eq_mul]
    norm_num
    ring
  unfold var
  rw [e (mean h)]
  unfold mean
  ring

theorem sd_pos (h : Fin 16 → Fin 4096 → ℝ) : 0 < Real.sqrt (var h + eps5) :=
  Real.sqrt_pos.mpr (add_pos_of_nonneg_of_pos (var_nonneg h) eps5_pos)

/-- Normalising by one scale and one shift. -/
theorem norm_eq (h : Fin 16 → Fin 4096 → ℝ) (g e : ℝ) (b : Fin 16) (n : Fin 4096) :
    max (h b n * (g / Real.sqrt (var h + eps5)) + (e - mean h * (g / Real.sqrt (var h + eps5)))) 0 = norm h g e b n := by
  unfold norm
  congr 1
  ring

/-- The sum over 64 tiles of 1024 rows is the sum over all rows. -/
theorem sum_tiles (f : Fin 16 → Fin 4096 → ℝ) :
    (∑ j : Fin 64, ∑ r : Fin 1024, f ⟨j.val / 4, by omega⟩ ⟨j.val % 4 * 1024 + r.val, by omega⟩) = ∑ b, ∑ n, f b n := by
  have h1 : ∀ b, (∑ n, f b n) = ∑ q : Fin 4, ∑ r : Fin 1024, f b ⟨q.val * 1024 + r.val, by omega⟩ := fun b =>
    Fin.sum_univ_tiles 4 1024 rfl (f b)
  have h2 := Fin.sum_univ_tiles 16 4 rfl (fun j : Fin 64 => ∑ r : Fin 1024, f ⟨j.val / 4, by omega⟩ ⟨j.val % 4 * 1024 + r.val, by omega⟩)
  rw [h2]
  refine Finset.sum_congr rfl fun b _ => ?_
  rw [h1 b]
  refine Finset.sum_congr rfl fun q _ => Finset.sum_congr rfl fun r _ => ?_
  have hq := q.isLt
  exact congrArg₂ f (Fin.ext (show (b.val * 4 + q.val) / 4 = b.val by omega))
    (Fin.ext (show (b.val * 4 + q.val) % 4 * 1024 + r.val = q.val * 1024 + r.val by omega))

end Cert.Spec

end
-- ==== Proof.Lift.lean ====
module

public import proofs.«01_k».proof.Proof.Spec

@[expose] public section

set_option maxRecDepth 16384

noncomputable section

namespace Cert.Spec

open Idealize.ShloMosaic

/-! ## Extended reals that are real -/

/-- A finite sum of reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum of reals. -/
theorem coe_max (a b : ℝ) : max ((a : ℝ) : EReal) ((b : ℝ) : EReal) = ((max a b : ℝ) : EReal) :=
  (EReal.coe_strictMono.monotone.map_max).symm

/-- A quotient of reals. -/
theorem div_real {y : ℝ} (h : y ≠ 0) (x : ℝ) : Ideal.div (x : EReal) (y : EReal) = ((x / y : ℝ) : EReal) := by
  rw [Ideal.div_coe h, ← EReal.coe_mul, mul_one_div]

/-- The root of a real that is not negative. -/
theorem sqrt_real {x : ℝ} (h : 0 ≤ x) : Ideal.sqrt (x : EReal) = ((Real.sqrt x : ℝ) : EReal) := by
  rw [Ideal.sqrt_coe, if_neg (not_lt.mpr h)]

/-- A number below the largest is real when its negative is as well. -/
theorem exists_real {x : EReal} (h : max x (-x) < ⊤) : ∃ r : ℝ, x = (r : EReal) := by
  rw [max_lt_iff] at h
  induction x with
  | bot => exact absurd h.2 (by simp)
  | coe r => exact ⟨r, rfl⟩
  | top => exact absurd h.1 (lt_irrefl _)

/-- An index read as a number. -/
theorem index_real (l : Fin 1024) : (((BitVec.ofNat 32 l.val).toInt : ℝ) : EReal) = ((l.val : ℝ) : EReal) := by
  have hl := l.isLt
  have e : (BitVec.ofNat 32 l.val).toInt = (l.val : ℤ) := by
    rw [BitVec.toInt_eq_toNat_of_lt (by rw [BitVec.toNat_ofNat]; omega), BitVec.toNat_ofNat]
    omega
  rw [e, Int.cast_natCast]

/-! ## One round of the selection -/

/-- The distances of a row with those in `s` taken out. -/
def Masked (d : Fin 1024 → ℝ) (s : Finset (Fin 1024)) (D : Fin 1024 → EReal) : Prop := ∀ a, D a = if a ∈ s then ⊤ else ((d a : ℝ) : EReal)

/-- A minimum folded from the largest number is a value below all the others. -/
theorem fold_min_eq (D : Fin 1024 → EReal) (j : Fin 1024) (v : EReal) (hj : D j = v) (h : ∀ a, v ≤ D a) :
    Finset.univ.fold min ⊤ D = v := by
  apply le_antisymm
  · rw [← hj]
    exact Finset.fold_min_le (D j) |>.mpr (Or.inr ⟨j, Finset.mem_univ _, le_refl _⟩)
  · exact Finset.le_fold_min v |>.mpr ⟨le_top, fun a _ => h a⟩

/-- The minimum of a round is the distance of the next nearest. -/
theorem round_min {d : Fin 1024 → ℝ} {s : Finset (Fin 1024)} {D : Fin 1024 → EReal} (hD : Masked d s D) {j : Fin 1024} (hj : Next d s j) :
    Finset.univ.fold min ⊤ D = ((d j : ℝ) : EReal) := by
  refine fold_min_eq D j _ (by rw [hD, if_neg hj.1]) fun a => ?_
  rw [hD]
  split
  · exact le_top
  · exact EReal.coe_le_coe_iff.mpr (hj.le a ‹_›)

/-- A masked distance equals that of the next nearest only outside `s`. -/
theorem masked_eq {d : Fin 1024 → ℝ} {s : Finset (Fin 1024)} {D : Fin 1024 → EReal} (hD : Masked d s D) (a : Fin 1024) (v : ℝ) (h : D a = (v : EReal)) :
    a ∉ s ∧ d a = v := by
  rw [hD] at h
  by_cases ha : a ∈ s
  · rw [if_pos ha] at h
    exact absurd h (by simp)
  · rw [if_neg ha] at h
    exact ⟨ha, EReal.coe_eq_coe_iff.mp h⟩

/-- The lowest index at the minimum is the next nearest's. -/
theorem round_index {d : Fin 1024 → ℝ} {s : Finset (Fin 1024)} {D : Fin 1024 → EReal} (hD : Masked d s D) {j : Fin 1024} (hj : Next d s j) :
    Finset.univ.fold min ⊤ (fun a : Fin 1024 => if D a = ((d j : ℝ) : EReal) then ((a.val : ℝ) : EReal) else ((1024 : ℝ) : EReal)) = ((j.val : ℝ) : EReal) := by
  refine fold_min_eq _ j _ (if_pos (by rw [hD, if_neg hj.1])) fun a => ?_
  split
  · rename_i h
    obtain ⟨ha, e⟩ := masked_eq hD a _ h
    exact EReal.coe_le_coe_iff.mpr (by exact_mod_cast hj.le_index a ha e)
  · exact EReal.coe_le_coe_iff.mpr (by exact_mod_cast le_of_lt j.isLt)

/-- The mask of a round holds at the next nearest alone. -/
theorem round_mask {d : Fin 1024 → ℝ} {s : Finset (Fin 1024)} {D : Fin 1024 → EReal} (hD : Masked d s D) {j : Fin 1024} (hj : Next d s j) (a : Fin 1024) :
    ((if D a = ((d j : ℝ) : EReal) then ((a.val : ℝ) : EReal) else ((1024 : ℝ) : EReal)) = ((j.val : ℝ) : EReal)) ↔ a = j := by
  constructor
  · intro h
    split at h
    · exact Fin.ext (by exact_mod_cast EReal.coe_eq_coe_iff.mp h)
    · have := EReal.coe_eq_coe_iff.mp h
      have hj' := j.isLt
      have : (1024 : ℕ) = j.val := by exact_mod_cast this
      omega
  · rintro rfl
    exact if_pos (by rw [hD, if_neg hj.1])

/-- Taking the next nearest out. -/
theorem round_next {d : Fin 1024 → ℝ} {s : Finset (Fin 1024)} {D : Fin 1024 → EReal} (hD : Masked d s D) (j : Fin 1024) :
    Masked d (insert j s) fun a => if a = j then ⊤ else D a := fun a => by
  by_cases h : a = j
  · simp [h]
  · show (if a = j then ⊤ else D a) = _
    rw [if_neg h, hD]
    simp [h]

/-! ## The weighted average -/

theorem wt_pos {d : Fin 1024 → ℝ} (hd : ∀ a, 0 ≤ d a) (k : Fin 3) : 0 < wt d k :=
  div_pos one_pos (add_pos_of_nonneg_of_pos (hd _) eps8_pos)

theorem tot_pos {d : Fin 1024 → ℝ} (hd : ∀ a, 0 ≤ d a) : 0 < ∑ k, wt d k :=
  Finset.sum_pos (fun k _ => wt_pos hd k) Finset.univ_nonempty

/-- A matrix that holds each of the three weights at its place averages the features. -/
theorem interp_eq (d f : Fin 1024 → ℝ) :
    (∑ a, ((if a = n0 d then wt d 0 else 0) + (if a = n1 d then wt d 1 else 0) + (if a = n2 d then wt d 2 else 0)) * f a) * (1 / ∑ k, wt d k) = interp d f := by
  unfold interp
  simp only [add_mul, ite_mul, zero_mul, Finset.sum_add_distrib, Finset.sum_ite_eq', Finset.mem_univ, if_true]
  rw [Fin.sum_univ_three, Fin.sum_univ_three]
  show _ = f (n0 d) * _ + f (n1 d) * _ + f (n2 d) * _
  ring

/-! ## The normalisation -/

/-- Scaling and shifting a row by the running sums is normalising it. -/
theorem affine_real (h : Fin 16 → Fin 4096 → ℝ) (g e : ℝ) (b : Fin 16) (n : Fin 4096) (S Q : EReal)
    (hS : S = ((∑ b, ∑ n, h b n : ℝ) : EReal)) (hQ : Q = ((∑ b, ∑ n, h b n * h b n : ℝ) : EReal)) :
    max (((h b n : ℝ) : EReal) * Ideal.div (g : EReal) (Ideal.sqrt (Q * Ideal.ofBits .f32 0x37800000#32
          - S * Ideal.ofBits .f32 0x37800000#32 * (S * Ideal.ofBits .f32 0x37800000#32) + Ideal.ofBits .f32 0x3727C5AC#32))
        + ((e : EReal) - S * Ideal.ofBits .f32 0x37800000#32 * Ideal.div (g : EReal) (Ideal.sqrt (Q * Ideal.ofBits .f32 0x37800000#32
          - S * Ideal.ofBits .f32 0x37800000#32 * (S * Ideal.ofBits .f32 0x37800000#32) + Ideal.ofBits .f32 0x3727C5AC#32)))) 0
      = ((norm h g e b n : ℝ) : EReal) := by
  have hm : S * Ideal.ofBits .f32 0x37800000#32 = ((mean h : ℝ) : EReal) := by
    rw [hS, ofBits_inv_65536, ← EReal.coe_mul, mul_one_div]
    rfl
  have hq : Q * Ideal.ofBits .f32 0x37800000#32 = (((∑ b, ∑ n, h b n * h b n) / 65536 : ℝ) : EReal) := by
    rw [hQ, ofBits_inv_65536, ← EReal.coe_mul, mul_one_div]
  rw [hm, hq, ofBits_eps5, ← EReal.coe_mul, ← EReal.coe_sub, var_eq, ← EReal.coe_add,
    sqrt_real (le_of_lt (add_pos_of_nonneg_of_pos (var_nonneg h) eps5_pos)), div_real (ne_of_gt (sd_pos h)),
    ← EReal.coe_mul, ← EReal.coe_mul, ← EReal.coe_sub, ← EReal.coe_add, ← EReal.coe_zero, coe_max, norm_eq]

end Cert.Spec

end
-- ==== Proof.Select.lean ====
module

public import proofs.«01_k».proof.Proof.State
public import proofs.«01_k».proof.Proof.Lift

@[expose] public section

set_option maxRecDepth 16384

noncomputable section

namespace Cert.KernelIdeal.Mega

open Cert.KernelIdeal.Gen
open Idealize.ShloMosaic Cert.Spec

/-! ## The three rounds of the selection, at one dense point -/

/-- The index row holds the indices. -/
theorem pay9_apply (r l : Fin 1024) : k0_pay9 (F := Ideal) (ix2 r l) = ((l.val : ℝ) : EReal) := by
  rw [← index_real]
  pointwise [k0_pay9]
  rfl

section rounds

variable (pp spp : FVec Ideal S1x3x1024 .f32) (r : Fin 1024) (p : Fin 3 → ℝ) (q : Fin 1024 → Fin 3 → ℝ)
  (hp : ∀ k, pp (ix3 0 k r) = ((p k : ℝ) : EReal)) (hq : ∀ l k, spp (ix3 0 k l) = ((q l k : ℝ) : EReal))

include hp hq

/-- The computed distances. -/
theorem pay8_apply (l : Fin 1024) : (k0_pay8 (F := Ideal) pp spp) (ix2 r l) = ((dst p q l : ℝ) : EReal) := by
  pointwise [k0_pay8]
  simp only [hp, hq, ofBits_neg_two, ← EReal.coe_mul, coe_sum, ← EReal.coe_add]
  rfl

theorem masked0 : Masked (dst p q) ∅ fun l => (k0_pay8 (F := Ideal) pp spp) (ix2 r l) := fun l => by
  rw [if_neg (Finset.notMem_empty l)]
  exact pay8_apply pp spp r p q hp hq l

theorem pay10_apply : k0_pay10 (F := Ideal) pp spp (ix2 r 0) = ((dst p q (n0 (dst p q)) : ℝ) : EReal) := by
  rw [← round_min (masked0 pp spp r p q hp hq) (n0_spec _), ← ofBits_top]
  unfold k0_pay10
  generalize k0_pay8 (F := Ideal) pp spp = D
  pointwise []

/-- The first round's mask. -/
theorem pay13_apply (l : Fin 1024) : (k0_pay13 (F := Ideal) pp spp) (ix2 r l) = BitVec.ofBool (decide (l = n0 (dst p q))) := by
  have hD := masked0 pp spp r p q hp hq
  have hM := pay10_apply pp spp r p q hp hq
  have h2 := round_index hD (n0_spec _)
  have h3 := round_mask hD (n0_spec _) l
  unfold k0_pay13
  revert hM h2 h3
  generalize k0_pay10 (F := Ideal) pp spp = M
  generalize k0_pay8 (F := Ideal) pp spp = D
  intro hM h2 h3
  pointwise []
  rw [hM, ofBits_1024, ofBits_top]
  simp only [pay9_apply]
  rw [h2, decide_eq_decide.mpr h3]

theorem masked1 : Masked (dst p q) {n0 (dst p q)} fun l => k0_pay15 (k0_pay8 (F := Ideal) pp spp) (k0_pay13 (F := Ideal) pp spp) (Scalar.ofBits .f32 0x7F800000#32) (ix2 r l) := fun l => by
  have h := round_next (masked0 pp spp r p q hp hq) (n0 (dst p q)) l
  rw [show ({n0 (dst p q)} : Finset (Fin 1024)) = insert (n0 (dst p q)) ∅ from rfl, ← h]
  have hM := pay13_apply pp spp r p q hp hq l
  unfold k0_pay15
  revert hM
  generalize k0_pay13 (F := Ideal) pp spp = M
  generalize k0_pay8 (F := Ideal) pp spp = D
  intro hM
  pointwise []
  rw [hM]
  by_cases e : l = n0 (dst p q) <;> simp [e, Scalar.select, ofBits_top]

theorem pay16_apply : k0_pay16 (k0_pay8 (F := Ideal) pp spp) (k0_pay13 (F := Ideal) pp spp) (Scalar.ofBits .f32 0x7F800000#32) (ix2 r 0) = ((dst p q (n1 (dst p q)) : ℝ) : EReal) := by
  rw [← round_min (masked1 pp spp r p q hp hq) (n1_spec _), ← ofBits_top]
  unfold k0_pay16
  generalize k0_pay15 (k0_pay8 (F := Ideal) pp spp) (k0_pay13 (F := Ideal) pp spp) (Scalar.ofBits .f32 0x7F800000#32) = D
  pointwise []

/-- The second round's mask. -/
theorem pay18_apply (l : Fin 1024) : k0_pay18 (k0_pay8 (F := Ideal) pp spp) k0_pay9 (k0_pay13 (F := Ideal) pp spp) (Scalar.ofBits .f32 0x7F800000#32) (ix2 r l) = BitVec.ofBool (decide (l = n1 (dst p q))) := by
  have hD := masked1 pp spp r p q hp hq
  have hM := pay16_apply pp spp r p q hp hq
  have h2 := round_index hD (n1_spec _)
  have h3 := round_mask hD (n1_spec _) l
  unfold k0_pay18
  revert hM h2 h3
  generalize k0_pay16 (k0_pay8 (F := Ideal) pp spp) (k0_pay13 (F := Ideal) pp spp) (Scalar.ofBits .f32 0x7F800000#32) = M
  generalize k0_pay15 (k0_pay8 (F := Ideal) pp spp) (k0_pay13 (F := Ideal) pp spp) (Scalar.ofBits .f32 0x7F800000#32) = D
  intro hM h2 h3
  pointwise []
  rw [hM, ofBits_1024, ofBits_top]
  simp only [pay9_apply]
  rw [h2, decide_eq_decide.mpr h3]

theorem masked2 : Masked (dst p q) {n1 (dst p q), n0 (dst p q)} fun l => k0_pay19 (k0_pay8 (F := Ideal) pp spp) k0_pay9 (k0_pay13 (F := Ideal) pp spp) (Scalar.ofBits .f32 0x7F800000#32) (ix2 r l) := fun l => by
  have h := round_next (masked1 pp spp r p q hp hq) (n1 (dst p q)) l
  rw [← h]
  have hM := pay18_apply pp spp r p q hp hq l
  unfold k0_pay19
  revert hM
  generalize k0_pay18 (k0_pay8 (F := Ideal) pp spp) k0_pay9 (k0_pay13 (F := Ideal) pp spp) (Scalar.ofBits .f32 0x7F800000#32) = M
  generalize k0_pay15 (k0_pay8 (F := Ideal) pp spp) (k0_pay13 (F := Ideal) pp spp) (Scalar.ofBits .f32 0x7F800000#32) = D
  intro hM
  pointwise []
  rw [hM]
  by_cases e : l = n1 (dst p q) <;> simp [e, Scalar.select, ofBits_top]

theorem pay20_apply : k0_pay20 (k0_pay8 (F := Ideal) pp spp) k0_pay9 (k0_pay13 (F := Ideal) pp spp) (Scalar.ofBits .f32 0x7F800000#32) (ix2 r 0) = ((dst p q (n2 (dst p q)) : ℝ) : EReal) := by
  rw [← round_min (masked2 pp spp r p q hp hq) (n2_spec _), ← ofBits_top]
  unfold k0_pay20
  generalize k0_pay19 (k0_pay8 (F := Ideal) pp spp) k0_pay9 (k0_pay13 (F := Ideal) pp spp) (Scalar.ofBits .f32 0x7F800000#32) = D
  pointwise []

omit hp hq in
/-- The reciprocal of a distance. -/
theorem recip (d : Fin 1024 → ℝ) (hd : ∀ a, 0 ≤ d a) (k : Fin 3) :
    Ideal.div 1 (((d (near d k) : ℝ) : EReal) + Ideal.ofBits .f32 0x322BCC77#32) = ((wt d k : ℝ) : EReal) := by
  rw [ofBits_eps8, ← EReal.coe_add, ← EReal.coe_one, div_real (ne_of_gt (add_pos_of_nonneg_of_pos (hd _) eps8_pos))]
  rfl

theorem pay11_apply : k0_pay11 (F := Ideal) pp spp (ix2 r 0) = ((wt (dst p q) 0 : ℝ) : EReal) := by
  have hM := pay10_apply pp spp r p q hp hq
  rw [← recip _ (dst_nonneg p q) 0]
  unfold k0_pay11
  revert hM
  generalize k0_pay10 (F := Ideal) pp spp = M
  intro hM
  pointwise []
  rw [hM]
  rfl

theorem pay17_apply : k0_pay17 (k0_pay8 (F := Ideal) pp spp) (k0_pay13 (F := Ideal) pp spp) (Scalar.ofBits .f32 0x7F800000#32) (ix2 r 0) = ((wt (dst p q) 1 : ℝ) : EReal) := by
  have hM := pay16_apply pp spp r p q hp hq
  rw [← recip _ (dst_nonneg p q) 1]
  unfold k0_pay17
  revert hM
  generalize k0_pay16 (k0_pay8 (F := Ideal) pp spp) (k0_pay13 (F := Ideal) pp spp) (Scalar.ofBits .f32 0x7F800000#32) = M
  intro hM
  pointwise []
  rw [hM]
  rfl

theorem pay21_apply : k0_pay21 (k0_pay8 (F := Ideal) pp spp) k0_pay9 (k0_pay13 (F := Ideal) pp spp) (Scalar.ofBits .f32 0x7F800000#32) (ix2 r 0) = ((wt (dst p q) 2 : ℝ) : EReal) := by
  have hM := pay20_apply pp spp r p q hp hq
  rw [← recip _ (dst_nonneg p q) 2]
  unfold k0_pay21
  revert hM
  generalize k0_pay20 (k0_pay8 (F := Ideal) pp spp) k0_pay9 (k0_pay13 (F := Ideal) pp spp) (Scalar.ofBits .f32 0x7F800000#32) = M
  intro hM
  pointwise []
  rw [hM]
  rfl

/-- The total weight of the dense point. -/
theorem pay22_apply : k0_pay22 (k0_pay8 (F := Ideal) pp spp) k0_pay9 (k0_pay12 pp spp) (k0_pay13 (F := Ideal) pp spp) (Scalar.ofBits .f32 0x7F800000#32) (ix2 r 0) = ((∑ k, wt (dst p q) k : ℝ) : EReal) := by
  have h0 := pay11_apply pp spp r p q hp hq
  have h1 := pay17_apply pp spp r p q hp hq
  have h2 := pay21_apply pp spp r p q hp hq
  unfold k0_pay22 k0_pay12
  revert h0 h1 h2
  generalize k0_pay21 (k0_pay8 (F := Ideal) pp spp) k0_pay9 (k0_pay13 (F := Ideal) pp spp) (Scalar.ofBits .f32 0x7F800000#32) = w2
  generalize k0_pay17 (k0_pay8 (F := Ideal) pp spp) (k0_pay13 (F := Ideal) pp spp) (Scalar.ofBits .f32 0x7F800000#32) = w1
  generalize k0_pay11 (F := Ideal) pp spp = w0
  intro h0 h1 h2
  rw [Fin.sum_univ_three, EReal.coe_add, EReal.coe_add, ← h0, ← h1, ← h2]
  pointwise []

omit hp hq in
theorem select_real (P : Prop) [Decidable P] (w : ℝ) :
    Scalar.select (BitVec.ofBool (decide P)) ((w : ℝ) : EReal) 0 = (((if P then w else 0 : ℝ)) : EReal) := by
  by_cases h : P <;> simp [h, Scalar.select]

theorem pay14_apply (l : Fin 1024) : k0_pay14 (F := Ideal) pp spp (ix2 r l) = (((if l = n0 (dst p q) then wt (dst p q) 0 else 0 : ℝ)) : EReal) := by
  have hM := pay13_apply pp spp r p q hp hq l
  have hw := pay11_apply pp spp r p q hp hq
  unfold k0_pay14
  revert hM hw
  generalize k0_pay13 (F := Ideal) pp spp = M
  generalize k0_pay11 (F := Ideal) pp spp = w
  intro hM hw
  pointwise []
  rw [hM, hw, select_real]

/-- The selection matrix at the dense point: each of the three weights at its place. -/
theorem pay23_apply (l : Fin 1024) : k0_pay23 (k0_pay8 (F := Ideal) pp spp) k0_pay9 (k0_pay13 (F := Ideal) pp spp) (k0_pay14 pp spp) (Scalar.ofBits .f32 0x7F800000#32) (ix2 r l)
    = ((((if l = n0 (dst p q) then wt (dst p q) 0 else 0) + (if l = n1 (dst p q) then wt (dst p q) 1 else 0)
        + (if l = n2 (dst p q) then wt (dst p q) 2 else 0) : ℝ)) : EReal) := by
  have hA := pay14_apply pp spp r p q hp hq l
  have hM1 := pay18_apply pp spp r p q hp hq l
  have hw1 := pay17_apply pp spp r p q hp hq
  have hw2 := pay21_apply pp spp r p q hp hq
  have hD := masked2 pp spp r p q hp hq
  have hm := pay20_apply pp spp r p q hp hq
  have h2 := round_index hD (n2_spec _)
  have h3 := round_mask hD (n2_spec _) l
  unfold k0_pay23
  revert hA hM1 hw1 hw2 hm h2 h3
  generalize k0_pay21 (k0_pay8 (F := Ideal) pp spp) k0_pay9 (k0_pay13 (F := Ideal) pp spp) (Scalar.ofBits .f32 0x7F800000#32) = w2
  generalize k0_pay20 (k0_pay8 (F := Ideal) pp spp) k0_pay9 (k0_pay13 (F := Ideal) pp spp) (Scalar.ofBits .f32 0x7F800000#32) = m2
  generalize k0_pay19 (k0_pay8 (F := Ideal) pp spp) k0_pay9 (k0_pay13 (F := Ideal) pp spp) (Scalar.ofBits .f32 0x7F800000#32) = D2
  generalize k0_pay18 (k0_pay8 (F := Ideal) pp spp) k0_pay9 (k0_pay13 (F := Ideal) pp spp) (Scalar.ofBits .f32 0x7F800000#32) = M1
  generalize k0_pay17 (k0_pay8 (F := Ideal) pp spp) (k0_pay13 (F := Ideal) pp spp) (Scalar.ofBits .f32 0x7F800000#32) = w1
  generalize k0_pay14 (F := Ideal) pp spp = A
  intro hA hM1 hw1 hw2 hm h2 h3
  pointwise []
  rw [hM1, hw1, hA, hm, ofBits_1024, ofBits_top]
  simp only [pay9_apply]
  rw [h2]
  simp only [h3]
  rw [hw2, select_real, EReal.coe_add, EReal.coe_add]
  congr 1
  by_cases e : l = n2 (dst p q) <;> simp [e]

end rounds

end Cert.KernelIdeal.Mega

end
-- ==== Proof.Model.lean ====
module

public import proofs.«01_k».proof.Proof.Lift

@[expose] public section

set_option maxRecDepth 16384

noncomputable section

namespace Cert.Spec

open Idealize.ShloMosaic

/-- The twelve inputs, as real numbers. -/
structure Data where
  pp : Fin 16 → Fin 3 → Fin 4096 → ℝ
  sp : Fin 16 → Fin 3 → Fin 1024 → ℝ
  sk : Fin 16 → Fin 256 → Fin 4096 → ℝ
  sf : Fin 16 → Fin 512 → Fin 1024 → ℝ
  w0 : Fin 256 → Fin 768 → ℝ
  b0 : Fin 256 → ℝ
  g0 : Fin 256 → ℝ
  e0 : Fin 256 → ℝ
  w1 : Fin 256 → Fin 256 → ℝ
  b1 : Fin 256 → ℝ
  g1 : Fin 256 → ℝ
  e1 : Fin 256 → ℝ

namespace Data

variable (x : Data)

/-- The squared distances from one dense point to the sparse points of its cloud. -/
def row (b : Fin 16) (n : Fin 4096) : Fin 1024 → ℝ := dst (fun k => x.pp b k n) fun l k => x.sp b k l

/-- The interpolated features of a dense point. -/
def it (b : Fin 16) (n : Fin 4096) (c : Fin 512) : ℝ := interp (x.row b n) (x.sf b c)

/-- The first layer before it is normalised. -/
def H0 (o : Fin 256) (b : Fin 16) (n : Fin 4096) : ℝ := first (fun c => x.sk b c n) (x.it b n) (x.w0 o) (x.b0 o)

/-- The first layer. -/
def H1 (o : Fin 256) (b : Fin 16) (n : Fin 4096) : ℝ := norm (x.H0 o) (x.g0 o) (x.e0 o) b n

/-- The second layer before it is normalised. -/
def H2 (o : Fin 256) (b : Fin 16) (n : Fin 4096) : ℝ := (∑ c, x.H1 c b n * x.w1 o c) + x.b1 o

/-- The second layer: the result. -/
def out (o : Fin 256) (b : Fin 16) (n : Fin 4096) : ℝ := norm (x.H2 o) (x.g1 o) (x.e1 o) b n

end Data

/-- The cloud of tile `j`. -/
def bOf (j : Fin 64) : Fin 16 := ⟨j.val / 4, by omega⟩
/-- The dense point at row `r` of tile `j`. -/
def nOf (j : Fin 64) (r : Fin 1024) : Fin 4096 := ⟨j.val % 4 * 1024 + r.val, by omega⟩

/-- A running total over the first `n` tiles. -/
def upTo (f : Fin 16 → Fin 4096 → ℝ) (n : ℕ) : ℝ := ∑ j : Fin 64, if j.val < n then ∑ r, f (bOf j) (nOf j r) else 0

theorem upTo_zero (f : Fin 16 → Fin 4096 → ℝ) : upTo f 0 = 0 := by
  unfold upTo
  simp

/-- One more tile adds its rows. -/
theorem upTo_succ (f : Fin 16 → Fin 4096 → ℝ) (j : Fin 64) : upTo f (j.val + 1) = upTo f j.val + ∑ r, f (bOf j) (nOf j r) := by
  unfold upTo
  have e : ∀ i : Fin 64, (if i.val < j.val + 1 then ∑ r, f (bOf i) (nOf i r) else 0)
      = (if i.val < j.val then ∑ r, f (bOf i) (nOf i r) else 0) + if i = j then ∑ r, f (bOf i) (nOf i r) else 0 := fun i => by
    by_cases h : i = j
    · subst h
      simp
    · have hne : i.val ≠ j.val := fun e => h (Fin.ext e)
      rw [if_neg h, add_zero]
      exact if_congr (by omega) rfl rfl
  simp only [e, Finset.sum_add_distrib, Finset.sum_ite_eq', Finset.sum_ite_eq, Finset.mem_univ, if_true]

/-- The whole running total is the sum over all rows. -/
theorem upTo_all (f : Fin 16 → Fin 4096 → ℝ) : upTo f 64 = ∑ b, ∑ n, f b n := by
  rw [← sum_tiles f]
  unfold upTo
  exact Finset.sum_congr rfl fun j _ => if_pos j.isLt

/-- The twelve argument arrays hold the data `x`. -/
structure Holds (x : Data) (a0 : FVec Ideal ⟨3, ![16, 3, 4096]⟩ .f32) (a1 : FVec Ideal ⟨3, ![16, 3, 1024]⟩ .f32) (a2 : FVec Ideal ⟨3, ![16, 256, 4096]⟩ .f32) (a3 : FVec Ideal ⟨3, ![16, 512, 1024]⟩ .f32) (a4 : FVec Ideal ⟨2, ![256, 768]⟩ .f32) (a5 : FVec Ideal ⟨1, ![256]⟩ .f32) (a6 : FVec Ideal ⟨1, ![256]⟩ .f32) (a7 : FVec Ideal ⟨1, ![256]⟩ .f32) (a8 : FVec Ideal ⟨2, ![256, 256]⟩ .f32) (a9 : FVec Ideal ⟨1, ![256]⟩ .f32) (a10 : FVec Ideal ⟨1, ![256]⟩ .f32) (a11 : FVec Ideal ⟨1, ![256]⟩ .f32) : Prop where
  pp : ∀ b k n, a0 (ix3 b k n) = ((x.pp b k n : ℝ) : EReal)
  sp : ∀ b k l, a1 (ix3 b k l) = ((x.sp b k l : ℝ) : EReal)
  sk : ∀ b c n, a2 (ix3 b c n) = ((x.sk b c n : ℝ) : EReal)
  sf : ∀ b c l, a3 (ix3 b c l) = ((x.sf b c l : ℝ) : EReal)
  w0 : ∀ o c, a4 (ix2 o c) = ((x.w0 o c : ℝ) : EReal)
  b0 : ∀ o, a5 (ix1 o) = ((x.b0 o : ℝ) : EReal)
  g0 : ∀ o, a6 (ix1 o) = ((x.g0 o : ℝ) : EReal)
  e0 : ∀ o, a7 (ix1 o) = ((x.e0 o : ℝ) : EReal)
  w1 : ∀ o c, a8 (ix2 o c) = ((x.w1 o c : ℝ) : EReal)
  b1 : ∀ o, a9 (ix1 o) = ((x.b1 o : ℝ) : EReal)
  g1 : ∀ o, a10 (ix1 o) = ((x.g1 o : ℝ) : EReal)
  e1 : ∀ o, a11 (ix1 o) = ((x.e1 o : ℝ) : EReal)

/-- An array of reals. -/
def IsReal {s : Shape} (a : FVec Ideal s .f32) : Prop := ∀ i, ∃ r : ℝ, a i = (r : EReal)

theorem IsReal.toReal {s : Shape} {a : FVec Ideal s .f32} (h : IsReal a) (i : s.Idx) : a i = ((EReal.toReal (a i) : ℝ) : EReal) := by
  obtain ⟨r, e⟩ := h i
  rw [e, EReal.toReal_coe]

/-- Twelve arrays of reals hold some data. -/
theorem exists_holds (a0 : FVec Ideal ⟨3, ![16, 3, 4096]⟩ .f32) (a1 : FVec Ideal ⟨3, ![16, 3, 1024]⟩ .f32) (a2 : FVec Ideal ⟨3, ![16, 256, 4096]⟩ .f32) (a3 : FVec Ideal ⟨3, ![16, 512, 1024]⟩ .f32) (a4 : FVec Ideal ⟨2, ![256, 768]⟩ .f32) (a5 : FVec Ideal ⟨1, ![256]⟩ .f32) (a6 : FVec Ideal ⟨1, ![256]⟩ .f32) (a7 : FVec Ideal ⟨1, ![256]⟩ .f32) (a8 : FVec Ideal ⟨2, ![256, 256]⟩ .f32) (a9 : FVec Ideal ⟨1, ![256]⟩ .f32) (a10 : FVec Ideal ⟨1, ![256]⟩ .f32) (a11 : FVec Ideal ⟨1, ![256]⟩ .f32)
    (h0 : IsReal a0) (h1 : IsReal a1) (h2 : IsReal a2) (h3 : IsReal a3) (h4 : IsReal a4) (h5 : IsReal a5) (h6 : IsReal a6) (h7 : IsReal a7) (h8 : IsReal a8) (h9 : IsReal a9) (h10 : IsReal a10) (h11 : IsReal a11) :
    ∃ x, Holds x a0 a1 a2 a3 a4 a5 a6 a7 a8 a9 a10 a11 :=
  ⟨⟨fun b k n => EReal.toReal (a0 (ix3 b k n)), fun b k n => EReal.toReal (a1 (ix3 b k n)), fun b k n => EReal.toReal (a2 (ix3 b k n)), fun b k n => EReal.toReal (a3 (ix3 b k n)), fun o c => EReal.toReal (a4 (ix2 o c)), fun o => EReal.toReal (a5 (ix1 o)), fun o => EReal.toReal (a6 (ix1 o)), fun o => EReal.toReal (a7 (ix1 o)), fun o c => EReal.toReal (a8 (ix2 o c)), fun o => EReal.toReal (a9 (ix1 o)), fun o => EReal.toReal (a10 (ix1 o)), fun o => EReal.toReal (a11 (ix1 o))⟩,
    ⟨fun b k n => h0.toReal _, fun b k n => h1.toReal _, fun b k n => h2.toReal _, fun b k n => h3.toReal _, fun o c => h4.toReal _, fun o => h5.toReal _, fun o => h6.toReal _, fun o => h7.toReal _, fun o c => h8.toReal _, fun o => h9.toReal _, fun o => h10.toReal _, fun o => h11.toReal _⟩⟩

end Cert.Spec

end
-- ==== Proof.Layers.lean ====
module

public import proofs.«01_k».proof.Proof.Select
public import proofs.«01_k».proof.Proof.Model

@[expose] public section

set_option maxRecDepth 16384

noncomputable section

namespace Cert.KernelIdeal.Mega

open Cert.KernelIdeal.Gen
open Idealize.ShloMosaic Cert.Spec

/-- The blocks the grid points read are the tiles of the data `x`. -/
structure Reads (x : Data) (X : ℕ → Ins Ideal) : Prop where
  pp : ∀ (j : Fin 64) k r, (X j.val).pp (ix3 0 k r) = ((x.pp (bOf j) k (nOf j r) : ℝ) : EReal)
  spp : ∀ (j : Fin 64) k l, (X j.val).spp (ix3 0 k l) = ((x.sp (bOf j) k l : ℝ) : EReal)
  sf : ∀ (j : Fin 64) c l, (X j.val).sf (ix3 0 c l) = ((x.sf (bOf j) c l : ℝ) : EReal)
  sk : ∀ (j : Fin 64) c r, (X j.val).sk (ix3 0 c r) = ((x.sk (bOf j) c (nOf j r) : ℝ) : EReal)
  wa : ∀ n o (c : Fin 256), (X n).wa (ix2 o c) = ((x.w0 o ⟨c.val, by omega⟩ : ℝ) : EReal)
  wb : ∀ n o (c : Fin 512), (X n).wb (ix2 o c) = ((x.w0 o ⟨256 + c.val, by omega⟩ : ℝ) : EReal)
  b0 : ∀ n o, (X n).b0 (ix2 0 o) = ((x.b0 o : ℝ) : EReal)
  w1 : ∀ n o c, (X n).w1 (ix2 o c) = ((x.w1 o c : ℝ) : EReal)
  b1 : ∀ n o, (X n).b1 (ix2 0 o) = ((x.b1 o : ℝ) : EReal)
  g0 : ∀ n o, (X n).g0 (ix2 0 o) = ((x.g0 o : ℝ) : EReal)
  e0 : ∀ n o, (X n).e0 (ix2 0 o) = ((x.e0 o : ℝ) : EReal)
  g1 : ∀ n o, (X n).g1 (ix2 0 o) = ((x.g1 o : ℝ) : EReal)
  e1 : ∀ n o, (X n).e1 (ix2 0 o) = ((x.e1 o : ℝ) : EReal)

/-! ## The steps, at one entry -/

/-- The first layer's matrix product at an entry. -/
theorem pay24_apply (t : FVec Ideal S1024x1 .f32) (A : FVec Ideal S1024x1024 .f32) (sf : FVec Ideal S1x512x1024 .f32) (sk : FVec Ideal S1x256x1024 .f32)
    (wa : FVec Ideal S256x256 .f32) (wb : FVec Ideal S256x512 .f32) (b0 : FVec Ideal S1x256 .f32) (r : Fin 1024) (o : Fin 256) :
    k0_pay24 (F := Ideal) t A sf sk wa wb b0 (ix2 r o)
      = (∑ c : Fin 256, sk (ix3 0 c r) * wa (ix2 o c))
        + (∑ c : Fin 512, (∑ l : Fin 1024, A (ix2 r l) * sf (ix3 0 c l)) * Ideal.div 1 (t (ix2 r 0)) * wb (ix2 o c)) + b0 (ix2 0 o) := by
  pointwise [k0_pay24]

/-- A running sum takes the rows of one block on. -/
theorem pay5_apply (L : FVec Ideal S1024x256 .f32) (s : FVec Ideal S1x256 .f32) (o : Fin 256) :
    k0_pay5 (F := Ideal) L s (ix2 0 o) = s (ix2 0 o) + ∑ r : Fin 1024, L (ix2 r o) := by
  pointwise [k0_pay5]

/-- A running sum of squares takes the rows of one block on. -/
theorem pay6_apply (L : FVec Ideal S1024x256 .f32) (s : FVec Ideal S1x256 .f32) (o : Fin 256) :
    k0_pay6 (F := Ideal) L s (ix2 0 o) = s (ix2 0 o) + ∑ r : Fin 1024, L (ix2 r o) * L (ix2 r o) := by
  pointwise [k0_pay6]

/-- The same for the first layer's squares. -/
theorem pay2_apply (L : FVec Ideal S1024x256 .f32) (s : FVec Ideal S1x256 .f32) (o : Fin 256) :
    k0_pay2 (F := Ideal) L s (ix2 0 o) = s (ix2 0 o) + ∑ r : Fin 1024, L (ix2 r o) * L (ix2 r o) := by
  pointwise [k0_pay2]

/-- The same for the first layer's rows. -/
theorem sum0_apply (x : Ins Ideal) (s : FVec Ideal S1x256 .f32) (o : Fin 256) :
    sum0 x s (ix2 0 o) = s (ix2 0 o) + ∑ r : Fin 1024, layer0 x (ix2 r o) := by
  unfold sum0 k0_pay28
  rw [← layer0]
  generalize layer0 x = L
  pointwise [k0_pay1]

/-- Storing rounds nothing here. -/
theorem rows0_apply (x : Ins Ideal) (r : Fin 1024) (o : Fin 256) : rows0 x (ix2 r o) = layer0 x (ix2 r o) := by
  unfold rows0 k0_pay25
  rw [← layer0]
  generalize layer0 x = L
  pointwise []

/-- Storing rounds nothing here. -/
theorem rows1_apply (x : Ins Ideal) (s q : FVec Ideal S1x256 .f32) (h : FVec Ideal S1024x256 .bf16) (r : Fin 1024) (o : Fin 256) :
    rows1 x s q h (ix2 r o) = layer1 x s q h (ix2 r o) := by
  unfold rows1 k0_pay30
  rw [← layer1]
  generalize layer1 x s q h = L
  pointwise []

/-- The second layer at an entry. -/
theorem pay29_apply (s q g e b1 : FVec Ideal S1x256 .f32) (h : FVec Ideal S1024x256 .bf16) (w : FVec Ideal S256x256 .f32) (r : Fin 1024) (o : Fin 256)
    (H : Fin 256 → Fin 16 → Fin 4096 → ℝ) (γ β : Fin 256 → ℝ) (b : Fin 16) (n : Fin 4096)
    (hS : ∀ c, s (ix2 0 c) = ((∑ b, ∑ n, H c b n : ℝ) : EReal)) (hQ : ∀ c, q (ix2 0 c) = ((∑ b, ∑ n, H c b n * H c b n : ℝ) : EReal))
    (hg : ∀ c, g (ix2 0 c) = ((γ c : ℝ) : EReal)) (he : ∀ c, e (ix2 0 c) = ((β c : ℝ) : EReal)) (hh : ∀ c, h (ix2 r c) = ((H c b n : ℝ) : EReal)) :
    k0_pay29 (F := Ideal) s q g e h w b1 (ix2 r o) = (∑ c : Fin 256, ((norm (H c) (γ c) (β c) b n : ℝ) : EReal) * w (ix2 o c)) + b1 (ix2 0 o) := by
  simp only [← affine_real (H _) (γ _) (β _) b n _ _ (hS _) (hQ _), ← hg, ← he, ← hh]
  pointwise [k0_pay29]

/-- The result at an entry. -/
theorem pay7_apply (s q g e : FVec Ideal S1x256 .f32) (h : FVec Ideal S1024x256 .bf16) (r : Fin 1024) (o : Fin 256)
    (H : Fin 256 → Fin 16 → Fin 4096 → ℝ) (γ β : Fin 256 → ℝ) (b : Fin 16) (n : Fin 4096)
    (hS : ∀ c, s (ix2 0 c) = ((∑ b, ∑ n, H c b n : ℝ) : EReal)) (hQ : ∀ c, q (ix2 0 c) = ((∑ b, ∑ n, H c b n * H c b n : ℝ) : EReal))
    (hg : ∀ c, g (ix2 0 c) = ((γ c : ℝ) : EReal)) (he : ∀ c, e (ix2 0 c) = ((β c : ℝ) : EReal)) (hh : ∀ c, h (ix2 r c) = ((H c b n : ℝ) : EReal)) :
    k0_pay7 (F := Ideal) s q g e h (ix3 0 o r) = ((norm (H o) (γ o) (β o) b n : ℝ) : EReal) := by
  rw [← affine_real (H o) (γ o) (β o) b n _ _ (hS o) (hQ o), ← hg, ← he, ← hh]
  pointwise [k0_pay7]

/-! ## The layers of the data -/

section data

variable {x : Data} {X : ℕ → Ins Ideal} (R : Reads x X)
include R

theorem layer0_real (j : Fin 64) (r : Fin 1024) (o : Fin 256) : layer0 (X j.val) (ix2 r o) = ((x.H0 o (bOf j) (nOf j r) : ℝ) : EReal) := by
  have ht : totOf (X j.val) (ix2 r 0) = ((∑ k, wt (x.row (bOf j) (nOf j r)) k : ℝ) : EReal) :=
    pay22_apply _ _ r _ _ (fun k => R.pp j k r) (fun l k => R.spp j k l)
  have hA : ∀ l, selOf (X j.val) (ix2 r l) = _ := fun l => pay23_apply _ _ r _ _ (fun k => R.pp j k r) (fun l k => R.spp j k l) l
  have hd : ∀ a, 0 ≤ x.row (bOf j) (nOf j r) a := dst_nonneg _ _
  unfold layer0
  rw [pay24_apply, ht, ← EReal.coe_one, div_real (ne_of_gt (tot_pos hd)), R.b0]
  simp only [hA, R.sk, R.wa, R.wb, R.sf, ← EReal.coe_mul, coe_sum, ← EReal.coe_add]
  refine congrArg Real.toEReal ?_
  unfold Data.H0 first
  refine congrArg (· + x.b0 o) (congrArg ((∑ c : Fin 256, x.sk (bOf j) c (nOf j r) * x.w0 o ⟨c.val, by omega⟩) + ·) ?_)
  exact Finset.sum_congr rfl fun c _ => congrArg (· * x.w0 o ⟨256 + c.val, by omega⟩) (interp_eq (x.row (bOf j) (nOf j r)) (x.sf (bOf j) c))

theorem rows0_real (j : Fin 64) (r : Fin 1024) (o : Fin 256) : rows0 (X j.val) (ix2 r o) = ((x.H0 o (bOf j) (nOf j r) : ℝ) : EReal) := by
  rw [rows0_apply, layer0_real R]

theorem S1_real (o : Fin 256) : ∀ n, n ≤ 64 → S1 X n (ix2 0 o) = ((upTo (x.H0 o) n : ℝ) : EReal)
  | 0, _ => by
    rw [upTo_zero, EReal.coe_zero]
    show k0_pay26 (F := Ideal) (ix2 0 o) = 0
    pointwise [k0_pay26]
  | n + 1, h => by
    have ih := S1_real o n (by omega)
    have hl := layer0_real R ⟨n, by omega⟩
    have hu := upTo_succ (x.H0 o) ⟨n, by omega⟩
    show sum0 (X n) (S1 X n) (ix2 0 o) = _
    rw [sum0_apply, ih]
    simp only [hl, coe_sum, ← EReal.coe_add]
    rw [← hu]

theorem Q1_real (o : Fin 256) : ∀ n, n ≤ 64 → Q1 X n (ix2 0 o) = ((upTo (fun b n => x.H0 o b n * x.H0 o b n) n : ℝ) : EReal)
  | 0, _ => by
    rw [upTo_zero, EReal.coe_zero]
    show k0_pay27 (F := Ideal) (ix2 0 o) = 0
    pointwise [k0_pay27]
  | n + 1, h => by
    have ih := Q1_real o n (by omega)
    have hl := layer0_real R ⟨n, by omega⟩
    have hu := upTo_succ (fun b n => x.H0 o b n * x.H0 o b n) ⟨n, by omega⟩
    show k0_pay2 (layer0 (X n)) (Q1 X n) (ix2 0 o) = _
    rw [pay2_apply, ih]
    simp only [hl, ← EReal.coe_mul, coe_sum, ← EReal.coe_add]
    rw [← hu]

theorem L1_real (j : Fin 64) (r : Fin 1024) (o : Fin 256) : L1 X j.val (ix2 r o) = ((x.H2 o (bOf j) (nOf j r) : ℝ) : EReal) := by
  unfold L1 layer1
  rw [pay29_apply _ _ _ _ _ _ _ r o x.H0 x.g0 x.e0 (bOf j) (nOf j r) (fun c => by rw [S1_real R c 64 (le_refl _), upTo_all])
    (fun c => by rw [Q1_real R c 64 (le_refl _), upTo_all]) (fun c => R.g0 _ c) (fun c => R.e0 _ c) (fun c => rows0_real R j r c), R.b1]
  simp only [R.w1, ← EReal.coe_mul, coe_sum, ← EReal.coe_add]
  rfl

theorem R1_real (j : Fin 64) (r : Fin 1024) (o : Fin 256) : R1 X j.val (ix2 r o) = ((x.H2 o (bOf j) (nOf j r) : ℝ) : EReal) := by
  unfold R1
  rw [rows1_apply]
  exact L1_real R j r o

theorem S2_real (o : Fin 256) : ∀ n, n ≤ 64 → S2 X n (ix2 0 o) = ((upTo (x.H2 o) n : ℝ) : EReal)
  | 0, _ => by
    rw [upTo_zero, EReal.coe_zero]
    show k0_pay3 (F := Ideal) (ix2 0 o) = 0
    pointwise [k0_pay3]
  | n + 1, h => by
    have ih := S2_real o n (by omega)
    have hl := L1_real R ⟨n, by omega⟩
    have hu := upTo_succ (x.H2 o) ⟨n, by omega⟩
    show k0_pay5 (L1 X n) (S2 X n) (ix2 0 o) = _
    rw [pay5_apply, ih]
    simp only [hl, coe_sum, ← EReal.coe_add]
    rw [← hu]

theorem Q2_real (o : Fin 256) : ∀ n, n ≤ 64 → Q2 X n (ix2 0 o) = ((upTo (fun b n => x.H2 o b n * x.H2 o b n) n : ℝ) : EReal)
  | 0, _ => by
    rw [upTo_zero, EReal.coe_zero]
    show k0_pay4 (F := Ideal) (ix2 0 o) = 0
    pointwise [k0_pay4]
  | n + 1, h => by
    have ih := Q2_real o n (by omega)
    have hl := L1_real R ⟨n, by omega⟩
    have hu := upTo_succ (fun b n => x.H2 o b n * x.H2 o b n) ⟨n, by omega⟩
    show k0_pay6 (L1 X n) (Q2 X n) (ix2 0 o) = _
    rw [pay6_apply, ih]
    simp only [hl, ← EReal.coe_mul, coe_sum, ← EReal.coe_add]
    rw [← hu]

/-- The output block of tile `j` holds the result's rows of that tile. -/
theorem outBlk_real (j : Fin 64) (r : Fin 1024) (o : Fin 256) : outBlk X j.val (ix3 0 o r) = ((x.out o (bOf j) (nOf j r) : ℝ) : EReal) := by
  unfold outBlk outOf
  exact pay7_apply _ _ _ _ _ r o x.H2 x.g1 x.e1 (bOf j) (nOf j r) (fun c => by rw [S2_real R c 64 (le_refl _), upTo_all])
    (fun c => by rw [Q2_real R c 64 (le_refl _), upTo_all]) (fun c => R.g1 _ c) (fun c => R.e1 _ c) (fun c => R1_real R j r c)

end data

end Cert.KernelIdeal.Mega

end
-- ==== Proof.Inputs.lean ====
module

public import proofs.«01_k».proof.Proof.Layers
public import proofs.«01_k».proof.Proof.Launch
public import Idealize.ShloMosaic.Lib.Pipeline.ValueKit
public import Idealize.ShloMosaic.Lib.Claim

@[expose] public section

set_option maxRecDepth 16384

noncomputable section

namespace Cert.KernelIdeal.Mega

open Cert.KernelIdeal.Gen
open Idealize.ShloMosaic Idealize.ShloMosaic.TcCoe Cert.Spec
open Idealize.SL.Sem

/-! ## Where the blocks lie -/

/-- In phase 0 the tiled windows follow the tile. -/
theorem idx0 : ∀ t : Fin cfg0.N, t.val < 64 → win0_0.index t = ![t.val / 4, 0, t.val % 4] ∧ win0_1.index t = ![t.val / 4, 0, 0]
    ∧ win0_2.index t = ![t.val / 4, 0, 0] ∧ win0_3.index t = ![t.val / 4, 0, t.val % 4] :=
  (by decide +kernel : ∀ t : Fin grid0.N, _)

/-- The weights' windows stay. -/
theorem idxW : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

/-- In phase 2 the output's window follows the tile. -/
theorem idxO : ∀ t : Fin cfg0.N, 128 ≤ t.val → win0_13.index t = ![(t.val - 128) / 4, 0, (t.val - 128) % 4] :=
  (by decide +kernel : ∀ t : Fin grid0.N, _)

/-! ## What the blocks hold -/

section blocks

variable (m : (ℓ : Loc nD τ sig) → Buf (Elt Ideal) ℓ) (c : Dev nD) (t : Fin cfg0.N)

theorem blk0 (ht : t.val < 64) (k : Fin 3) (r : Fin 1024) :
    (show FVec Ideal S1x3x1024 .f32 from iblk m c 0 t) (ix3 0 k r)
      = (show FVec Ideal S16x3x4096 .f32 from m ((c : Thread nD τ).loc main_arg0)) (ix3 (bOf ⟨t.val, ht⟩) k (nOf ⟨t.val, ht⟩ r)) := by
  unfold bOf nOf
  blk_ext [iblk, V, idx0 t ht]

theorem blk1 (ht : t.val < 64) (k : Fin 3) (l : Fin 1024) :
    (show FVec Ideal S1x3x1024 .f32 from iblk m c 1 t) (ix3 0 k l)
      = (show FVec Ideal S16x3x1024 .f32 from m ((c : Thread nD τ).loc main_arg1)) (ix3 (bOf ⟨t.val, ht⟩) k l) := by
  unfold bOf
  blk_ext [iblk, V, idx0 t ht]

theorem blk2 (ht : t.val < 64) (k : Fin 512) (l : Fin 1024) :
    (show FVec Ideal S1x512x1024 .f32 from iblk m c 2 t) (ix3 0 k l)
      = (show FVec Ideal S16x512x1024 .f32 from m ((c : Thread nD τ).loc main_arg3)) (ix3 (bOf ⟨t.val, ht⟩) k l) := by
  unfold bOf
  blk_ext [iblk, V, idx0 t ht]

theorem blk3 (ht : t.val < 64) (k : Fin 256) (r : Fin 1024) :
    (show FVec Ideal S1x256x1024 .f32 from iblk m c 3 t) (ix3 0 k r)
      = (show FVec Ideal S16x256x4096 .f32 from m ((c : Thread nD τ).loc main_arg2)) (ix3 (bOf ⟨t.val, ht⟩) k (nOf ⟨t.val, ht⟩ r)) := by
  unfold bOf nOf
  blk_ext [iblk, V, idx0 t ht]

theorem blk7 (o k : Fin 256) :
    (show FVec Ideal S256x256 .f32 from iblk m c 7 t) (ix2 o k)
      = (show FVec Ideal S256x256 .f32 from m ((c : Thread nD τ).loc main_arg8)) (ix2 o k) := by
  blk_ext [iblk, V, idxW t]

/-- A vector laid out as one row. -/
theorem row_apply (a : FVec Ideal S256 .f32) (o : Fin 256) :
    (broadcastInDim S1x256 ![1] bcast_S256_S1x256_1 a : FVec Ideal S1x256 .f32) (ix2 0 o) = a (ix1 o) := by
  pointwise []

theorem V_v2 : (show FVec Ideal S1x256 .f32 from V m c main_call0_v2) = broadcastInDim S1x256 ![1] bcast_S256_S1x256_1 (show FVec Ideal S256 .f32 from m ((c : Thread nD τ).loc main_arg5)) := by
  entry_read
  rfl

theorem blk6 (o : Fin 256) :
    (show FVec Ideal S1x256 .f32 from iblk m c 6 t) (ix2 0 o) = (show FVec Ideal S256 .f32 from m ((c : Thread nD τ).loc main_arg5)) (ix1 o) := by
  refine Eq.trans ?_ ((congrFun (V_v2 m c) (ix2 0 o)).trans (row_apply _ o))
  blk_ext [iblk, idxW t]

theorem V_v3 : (show FVec Ideal S1x256 .f32 from V m c main_call0_v3) = broadcastInDim S1x256 ![1] bcast_S256_S1x256_1 (show FVec Ideal S256 .f32 from m ((c : Thread nD τ).loc main_arg9)) := by
  entry_read
  rfl

theorem blk8 (o : Fin 256) :
    (show FVec Ideal S1x256 .f32 from iblk m c 8 t) (ix2 0 o) = (show FVec Ideal S256 .f32 from m ((c : Thread nD τ).loc main_arg9)) (ix1 o) := by
  refine Eq.trans ?_ ((congrFun (V_v3 m c) (ix2 0 o)).trans (row_apply _ o))
  blk_ext [iblk, idxW t]

theorem V_v4 : (show FVec Ideal S1x256 .f32 from V m c main_call0_v4) = broadcastInDim S1x256 ![1] bcast_S256_S1x256_1 (show FVec Ideal S256 .f32 from m ((c : Thread nD τ).loc main_arg6)) := by
  entry_read
  rfl

theorem blk9 (o : Fin 256) :
    (show FVec Ideal S1x256 .f32 from iblk m c 9 t) (ix2 0 o) = (show FVec Ideal S256 .f32 from m ((c : Thread nD τ).loc main_arg6)) (ix1 o) := by
  refine Eq.trans ?_ ((congrFun (V_v4 m c) (ix2 0 o)).trans (row_apply _ o))
  blk_ext [iblk, idxW t]

theorem V_v5 : (show FVec Ideal S1x256 .f32 from V m c main_call0_v5) = broadcastInDim S1x256 ![1] bcast_S256_S1x256_1 (show FVec Ideal S256 .f32 from m ((c : Thread nD τ).loc main_arg7)) := by
  entry_read
  rfl

theorem blk10 (o : Fin 256) :
    (show FVec Ideal S1x256 .f32 from iblk m c 10 t) (ix2 0 o) = (show FVec Ideal S256 .f32 from m ((c : Thread nD τ).loc main_arg7)) (ix1 o) := by
  refine Eq.trans ?_ ((congrFun (V_v5 m c) (ix2 0 o)).trans (row_apply _ o))
  blk_ext [iblk, idxW t]

theorem V_v6 : (show FVec Ideal S1x256 .f32 from V m c main_call0_v6) = broadcastInDim S1x256 ![1] bcast_S256_S1x256_1 (show FVec Ideal S256 .f32 from m ((c : Thread nD τ).loc main_arg10)) := by
  entry_read
  rfl

theorem blk11 (o : Fin 256) :
    (show FVec Ideal S1x256 .f32 from iblk m c 11 t) (ix2 0 o) = (show FVec Ideal S256 .f32 from m ((c : Thread nD τ).loc main_arg10)) (ix1 o) := by
  refine Eq.trans ?_ ((congrFun (V_v6 m c) (ix2 0 o)).trans (row_apply _ o))
  blk_ext [iblk, idxW t]

theorem V_v7 : (show FVec Ideal S1x256 .f32 from V m c main_call0_v7) = broadcastInDim S1x256 ![1] bcast_S256_S1x256_1 (show FVec Ideal S256 .f32 from m ((c : Thread nD τ).loc main_arg11)) := by
  entry_read
  rfl

theorem blk12 (o : Fin 256) :
    (show FVec Ideal S1x256 .f32 from iblk m c 12 t) (ix2 0 o) = (show FVec Ideal S256 .f32 from m ((c : Thread nD τ).loc main_arg11)) (ix1 o) := by
  refine Eq.trans ?_ ((congrFun (V_v7 m c) (ix2 0 o)).trans (row_apply _ o))
  blk_ext [iblk, idxW t]

theorem V_v0 : (show FVec Ideal S256x256 .f32 from V m c main_call0_v0) = extractStridedSlice S256x256 ![0, 0] (show FVec Ideal S256x768 .f32 from m ((c : Thread nD τ).loc main_arg4)) slices_S256x768_S256x256_0_0 := by
  entry_read
  rfl

theorem slice0_apply (a : FVec Ideal S256x768 .f32) (o k : Fin 256) :
    (extractStridedSlice S256x256 ![0, 0] a slices_S256x768_S256x256_0_0 : FVec Ideal S256x256 .f32) (ix2 o k) = a (ix2 o ⟨k.val, by omega⟩) := by
  pointwise []

theorem blk4 (o k : Fin 256) :
    (show FVec Ideal S256x256 .f32 from iblk m c 4 t) (ix2 o k) = (show FVec Ideal S256x768 .f32 from m ((c : Thread nD τ).loc main_arg4)) (ix2 o ⟨k.val, by omega⟩) := by
  refine Eq.trans ?_ ((congrFun (V_v0 m c) (ix2 o k)).trans (slice0_apply _ o k))
  blk_ext [iblk, idxW t]

theorem V_v1 : (show FVec Ideal S256x512 .f32 from V m c main_call0_v1) = extractStridedSlice S256x512 ![0, 256] (show FVec Ideal S256x768 .f32 from m ((c : Thread nD τ).loc main_arg4)) slices_S256x768_S256x512_0_256 := by
  entry_read
  rfl

theorem slice1_apply (a : FVec Ideal S256x768 .f32) (o : Fin 256) (k : Fin 512) :
    (extractStridedSlice S256x512 ![0, 256] a slices_S256x768_S256x512_0_256 : FVec Ideal S256x512 .f32) (ix2 o k) = a (ix2 o ⟨256 + k.val, by omega⟩) := by
  pointwise []

theorem blk5 (o : Fin 256) (k : Fin 512) :
    (show FVec Ideal S256x512 .f32 from iblk m c 5 t) (ix2 o k) = (show FVec Ideal S256x768 .f32 from m ((c : Thread nD τ).loc main_arg4)) (ix2 o ⟨256 + k.val, by omega⟩) := by
  refine Eq.trans ?_ ((congrFun (V_v1 m c) (ix2 o k)).trans (slice1_apply _ o k))
  blk_ext [iblk, idxW t]

end blocks

/-- The blocks the grid points read are the tiles of the data the arguments hold. -/
theorem reads (m : (ℓ : Loc nD τ sig) → Buf (Elt Ideal) ℓ) (c : Dev nD) (x : Data)
    (H : Holds x (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))) :
    Reads x (insAt m c) := by
  have hN : ∀ j : Fin 64, j.val < cfg0.N := fun j => by rw [show cfg0.N = 192 from N_0]; omega
  have e : ∀ j : Fin 64, insAt m c j.val = insPt m c ⟨j.val, hN j⟩ := fun j => insAt_eq m c ⟨j.val, hN j⟩
  have e' : ∀ n, ∃ t, insAt m c n = insPt m c t := fun n => ⟨_, rfl⟩
  refine ⟨?_, ?_, ?_, ?_, ?_, ?_, ?_, ?_, ?_, ?_, ?_, ?_, ?_⟩
  · intro j k r
    rw [e j]
    exact (blk0 m c ⟨j.val, hN j⟩ j.isLt k r).trans (H.pp _ _ _)
  · intro j k l
    rw [e j]
    exact (blk1 m c ⟨j.val, hN j⟩ j.isLt k l).trans (H.sp _ _ _)
  · intro j k l
    rw [e j]
    exact (blk2 m c ⟨j.val, hN j⟩ j.isLt k l).trans (H.sf _ _ _)
  · intro j k r
    rw [e j]
    exact (blk3 m c ⟨j.val, hN j⟩ j.isLt k r).trans (H.sk _ _ _)
  · intro n o k
    obtain ⟨t, ht⟩ := e' n
    rw [ht]
    exact (blk4 m c t o k).trans (H.w0 _ _)
  · intro n o k
    obtain ⟨t, ht⟩ := e' n
    rw [ht]
    exact (blk5 m c t o k).trans (H.w0 _ _)
  · intro n o
    obtain ⟨t, ht⟩ := e' n
    rw [ht]
    exact (blk6 m c t o).trans (H.b0 _)
  · intro n o k
    obtain ⟨t, ht⟩ := e' n
    rw [ht]
    exact (blk7 m c t o k).trans (H.w1 _ _)
  · intro n o
    obtain ⟨t, ht⟩ := e' n
    rw [ht]
    exact (blk8 m c t o).trans (H.b1 _)
  · intro n o
    obtain ⟨t, ht⟩ := e' n
    rw [ht]
    exact (blk9 m c t o).trans (H.g0 _)
  · intro n o
    obtain ⟨t, ht⟩ := e' n
    rw [ht]
    exact (blk10 m c t o).trans (H.e0 _)
  · intro n o
    obtain ⟨t, ht⟩ := e' n
    rw [ht]
    exact (blk11 m c t o).trans (H.g1 _)
  · intro n o
    obtain ⟨t, ht⟩ := e' n
    rw [ht]
    exact (blk12 m c t o).trans (H.e1 _)

/-- The output array as the data's result. -/
def result (x : Data) : FVec Ideal S16x256x4096 .f32 := fun i => ((x.out (i 1) (i 0) (i 2) : ℝ) : EReal)

/-- The output array after the run. -/
theorem final (m : (ℓ : Loc nD τ sig) → Buf (Elt Ideal) ℓ) (c : Dev nD) (x : Data) (R : Reads x (insAt m c)) :
    (dats m 0 c).arrAt 13 (cfgs 0).N = result x := by
  refine (dats m 0 c).arrAt_eq_of_covers 13 _ (by decide +kernel) fun t hf y => ?_
  have ht : 128 ≤ t.val := by
    by_contra hlt
    rw [noFlush13 t (by omega)] at hf
    exact absurd hf (by decide)
  refine Eq.trans ?_ (b := (show FVec Ideal S1x256x1024 .f32 from outBlk (insAt m c) (t.val - 128)) (ix3 0 ⟨(y 1).val, (y 1).isLt⟩ ⟨(y 2).val, (y 2).isLt⟩)) ?_
  · blk_simp []
    rw [after_13]
    blk_ext
  · have hN : t.val < 192 := lt_of_lt_of_eq t.isLt N_0
    refine (outBlk_real R ⟨t.val - 128, by omega⟩ _ _).trans ?_
    refine congrArg Real.toEReal ?_
    have h0 : bOf ⟨t.val - 128, by omega⟩ = ((win0_13.blk t).view.emb y 0) := Fin.ext (by
      blk_simp [idxO t ht]
      rfl)
    have h1 : (⟨(y 1).val, (y 1).isLt⟩ : Fin 256) = ((win0_13.blk t).view.emb y 1) := Fin.ext (by
      blk_simp [idxO t ht])
    have h2 : nOf ⟨t.val - 128, by omega⟩ ⟨(y 2).val, (y 2).isLt⟩ = ((win0_13.blk t).view.emb y 2) := Fin.ext (by
      blk_simp [idxO t ht]
      rfl)
    rw [h0, h1, h2]

end Cert.KernelIdeal.Mega

end
-- ==== Proof.RefNear.lean ====
module

public import proofs.«01_k».proof.ReferenceIdeal
public import proofs.«01_k».proof.Proof.Spec
public import Idealize.ShloMosaic.Lib.SortFacts
public import Idealize.ShloMosaic.Lib.SortPrefix
public import Idealize.ShloMosaic.PureOps.Ideal.Laws
public import Idealize.ShloMosaic.Lib.Pipeline.Value

@[expose] public section

noncomputable section

namespace Cert.ReferenceIdeal.Nearest

open Cert.ReferenceIdeal Cert.Spec Idealize.ShloMosaic

/-! ## A stable sort of one row of distances puts the three nearest first -/

/-- A stable sort only asks whether a later position is before an earlier one. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    show insertBefore R a (stableSort R l) = insertBefore R' a (stableSort R' l)
    rw [ih h.2]
    exact insertBefore_congr R R' a _ fun b hb => h.1 b ((perm_stableSort R' l).mem_iff.mp hb)

/-- A stable sort by a key is the sort by the key and then the position. -/
theorem sortedFrom_tie {n : ℕ} (d : Fin n → ℝ) (k : Fin n) :
    sortedFrom (fun a b : Fin n => decide (d a < d b)) k = sortedFrom (fun a b : Fin n => decide (d a < d b) || (decide (d a = d b) && decide (a < b))) k := by
  have h : sortPositions n (fun a b : Fin n => decide (d a < d b)) = sortPositions n (fun a b : Fin n => decide (d a < d b) || (decide (d a = d b) && decide (a < b))) :=
    stableSort_congr_later _ _ _ ((List.pairwise_lt_finRange n).imp fun {a b} hab => by
      have hn : ¬ b < a := not_lt.mpr (le_of_lt hab)
      simp [hn])
  unfold sortedFrom
  rw [List.get_of_eq h]
  rfl

attribute [local irreducible] sortedFrom

/-- Nearer, or as near at a lower position. -/
def rank (d : Fin 1024 → ℝ) (a b : Fin 1024) : Bool := decide (d a < d b) || (decide (d a = d b) && decide (a < b))

theorem rank_iff (d : Fin 1024 → ℝ) (a b : Fin 1024) : rank d a b = true ↔ Before d a b := by
  unfold rank Before
  simp only [Bool.or_eq_true, Bool.and_eq_true, decide_eq_true_eq]

theorem rank_total (d : Fin 1024 → ℝ) : StrictTotalBefore (rank d) :=
  StrictTotalBefore.of_key_then_position (fun x y : ℝ => decide (x < y)) d
    (fun a => by simp) (fun a b c => by simpa using lt_trans)
    (fun a b => by simpa only [decide_eq_true_eq] using lt_trichotomy a b)

/-- A stable sort by distance is the sort by distance and then position. -/
theorem sortedFrom_rank (d : Fin 1024 → ℝ) (k : Fin 1024) : sortedFrom (fun a b : Fin 1024 => decide (d a < d b)) k = sortedFrom (rank d) k :=
  sortedFrom_tie d k

/-- If `a` comes first, `b` does not. -/
theorem rank_false {d : Fin 1024 → ℝ} {a b : Fin 1024} (h : Before d a b) : rank d b a = false :=
  (rank_total d).asymm a b ((rank_iff d a b).mpr h)

theorem near_ne (d : Fin 1024 → ℝ) : n0 d ≠ n1 d ∧ n0 d ≠ n2 d ∧ n1 d ≠ n2 d := by
  have h1 := (n1_spec d).1
  have h2 := (n2_spec d).1
  simp only [Finset.mem_singleton, Finset.mem_insert, not_or] at h1 h2
  exact ⟨fun e => h1 e.symm, fun e => h2.2 e.symm, fun e => h2.1 e.symm⟩

/-- The three nearest come before every other position, in their order. -/
theorem near_before (d : Fin 1024 → ℝ) (i : Fin 3) (p : Fin 1024) (hp : ∀ j : Fin 3, j ≤ i → near d j ≠ p) : Before d (near d i) p := by
  have h0 := hp 0 (Fin.zero_le _)
  have h0' : p ≠ n0 d := Ne.symm h0
  match i, hp with
  | ⟨0, _⟩, _ => exact (n0_spec d).2 p (by simp) h0'
  | ⟨1, _⟩, hp =>
    have h1 : p ≠ n1 d := Ne.symm (hp 1 (le_refl _))
    exact (n1_spec d).2 p (by simpa using h0') h1
  | ⟨2, _⟩, hp =>
    have h1 : p ≠ n1 d := Ne.symm (hp 1 (Fin.mk_le_mk.mpr (by omega)))
    have h2 : p ≠ n2 d := Ne.symm (hp 2 (le_refl _))
    exact (n2_spec d).2 p (by simpa using ⟨h1, h0'⟩) h2

theorem near_injective (d : Fin 1024 → ℝ) : Function.Injective (near d) := by
  obtain ⟨h01, h02, h12⟩ := near_ne d
  intro i j h
  match i, j, h with
  | ⟨0, _⟩, ⟨0, _⟩, _ => rfl
  | ⟨1, _⟩, ⟨1, _⟩, _ => rfl
  | ⟨2, _⟩, ⟨2, _⟩, _ => rfl
  | ⟨0, _⟩, ⟨1, _⟩, h => exact absurd h h01
  | ⟨0, _⟩, ⟨2, _⟩, h => exact absurd h h02
  | ⟨1, _⟩, ⟨2, _⟩, h => exact absurd h h12
  | ⟨1, _⟩, ⟨0, _⟩, h => exact absurd h.symm h01
  | ⟨2, _⟩, ⟨0, _⟩, h => exact absurd h.symm h02
  | ⟨2, _⟩, ⟨1, _⟩, h => exact absurd h.symm h12

/-- The sort's first three positions are the three nearest. -/
theorem sortedFrom_near (d : Fin 1024 → ℝ) (k : Fin 3) :
    sortedFrom (fun a b : Fin 1024 => decide (d a < d b)) ⟨k.val, by omega⟩ = near d k := by
  rw [sortedFrom_rank]
  refine (rank_total d).sortedFrom_eq_of_prefix (by decide) (near d) (near_injective d) ?_ ?_ k
  · intro i j hij
    exact rank_false (near_before d i _ fun l hl e => absurd (near_injective d e) (ne_of_lt (lt_of_le_of_lt hl hij)))
  · intro i p hp
    exact rank_false (near_before d i p fun j _ => hp j)

/-- What a sort of two operands puts at `j` of the first. -/
theorem sort2_fst {s : Shape} {a : ℕ} {α β : Type} {cmp : α × β → α × β → BitVec 1} {x : s.Idx → α} {y : s.Idx → β} (h : a < s.rank) (j : s.Idx) :
    (Host.sort2 s a cmp x y).1 j = x (j.along ⟨a, h⟩ (sortedFrom (fun k k' => cmp (x (j.along ⟨a, h⟩ k), y (j.along ⟨a, h⟩ k)) (x (j.along ⟨a, h⟩ k'), y (j.along ⟨a, h⟩ k')) == 1#1) (j ⟨a, h⟩))) := by
  unfold Host.sort2
  rw [dif_pos h]

/-- What a sort of two operands puts at `j` of the second. -/
theorem sort2_snd {s : Shape} {a : ℕ} {α β : Type} {cmp : α × β → α × β → BitVec 1} {x : s.Idx → α} {y : s.Idx → β} (h : a < s.rank) (j : s.Idx) :
    (Host.sort2 s a cmp x y).2 j = y (j.along ⟨a, h⟩ (sortedFrom (fun k k' => cmp (x (j.along ⟨a, h⟩ k), y (j.along ⟨a, h⟩ k)) (x (j.along ⟨a, h⟩ k'), y (j.along ⟨a, h⟩ k')) == 1#1) (j ⟨a, h⟩))) := by
  unfold Host.sort2
  rw [dif_pos h]

/-- The greatest three of a row of negated distances, and where they stand. -/
theorem topK_row (D : FVec Ideal S16x4096x1024 .f32) (h : S16x4096x1024.Slices (fun _ => 0) S16x4096x3) (d : Fin 1024 → ℝ) (b : Fin 16) (n : Fin 4096)
    (hD : ∀ l, D (ix3 b n l) = ((-(d l) : ℝ) : EReal)) (k : Fin 3) :
    (Host.topK S16x4096x3 2 (FloatOps.cmpfTotal .gt) D h).1 (ix3 b n k) = ((-(d (near d k)) : ℝ) : EReal)
      ∧ (Host.topK S16x4096x3 2 (FloatOps.cmpfTotal .gt) D h).2 (ix3 b n k) = BitVec.ofNat 32 (near d k).val := by
  have hlt : 2 < S16x4096x1024.rank := by decide
  have al : ∀ (j : S16x4096x1024.Idx) (l : Fin 1024), j 0 = b → j 1 = n → j.along ⟨2, hlt⟩ l = ix3 b n l := by
    intro j l h0 h1
    funext a
    match a with
    | ⟨0, _⟩ => exact h0
    | ⟨1, _⟩ => exact h1
    | ⟨2, _⟩ => rfl
  have cm : ∀ l l' : Fin 1024, (FloatOps.cmpfTotal (F := Ideal) (φ := .f32) .gt ((-(d l) : ℝ) : EReal) ((-(d l') : ℝ) : EReal) == 1#1) = decide (d l < d l') := by
    intro l l'
    rw [Ideal.cmpfTotal_def]
    show (BitVec.ofBool (decide (((-(d l') : ℝ) : EReal) < ((-(d l) : ℝ) : EReal))) == 1#1) = _
    simp only [EReal.coe_lt_coe_iff, neg_lt_neg_iff]
    by_cases hl : d l < d l' <;> simp [hl]
  have cut : ∀ {α : Type} (x : S16x4096x1024.Idx → α),
      extractStridedSlice S16x4096x3 (fun _ => 0) x h (ix3 b n k) = x (ix3 b n ⟨k.val, by omega⟩) := fun x =>
    extractStridedSlice_apply _ x h _ _ fun a => by
      match a with
      | ⟨0, _⟩ => exact (Nat.zero_add _).symm
      | ⟨1, _⟩ => exact (Nat.zero_add _).symm
      | ⟨2, _⟩ => exact (Nat.zero_add _).symm
  have src : ∀ l : Fin 1024, sortedFrom (fun k k' : Fin 1024 =>
      FloatOps.cmpfTotal (F := Ideal) (φ := .f32) .gt (D ((ix3 b n l : S16x4096x1024.Idx).along ⟨2, hlt⟩ k)) (D ((ix3 b n l : S16x4096x1024.Idx).along ⟨2, hlt⟩ k')) == 1#1)
      = sortedFrom (fun a b : Fin 1024 => decide (d a < d b)) := fun l => by
    refine congrArg sortedFrom (funext fun p => funext fun q => ?_)
    rw [al _ p rfl rfl, al _ q rfl rfl, hD, hD]
    exact cm p q
  have hk : k.val < 1024 := by omega
  have pos : sortedFrom (fun p q : Fin 1024 =>
      FloatOps.cmpfTotal (F := Ideal) (φ := .f32) .gt (D ((ix3 b n ⟨k.val, hk⟩ : S16x4096x1024.Idx).along ⟨2, hlt⟩ p)) (D ((ix3 b n ⟨k.val, hk⟩ : S16x4096x1024.Idx).along ⟨2, hlt⟩ q)) == 1#1)
      ⟨k.val, hk⟩ = near d k := (congrFun (src ⟨k.val, hk⟩) _).trans (sortedFrom_near d k)
  unfold Host.topK
  dsimp only
  constructor
  · rw [cut, sort2_fst hlt]
    refine (congrArg (fun p : Fin 1024 => D ((ix3 b n ⟨k.val, hk⟩ : S16x4096x1024.Idx).along ⟨2, hlt⟩ p)) pos).trans ?_
    show D ((ix3 b n ⟨k.val, hk⟩ : S16x4096x1024.Idx).along ⟨2, hlt⟩ (near d k)) = _
    rw [al _ _ rfl rfl, hD]
  · rw [cut, sort2_snd hlt]
    refine (congrArg (fun p : Fin 1024 => iotaInDim S16x4096x1024 32 ⟨2, hlt⟩ ((ix3 b n ⟨k.val, hk⟩ : S16x4096x1024.Idx).along ⟨2, hlt⟩ p)) pos).trans ?_
    show iotaInDim S16x4096x1024 32 ⟨2, hlt⟩ ((ix3 b n ⟨k.val, hk⟩ : S16x4096x1024.Idx).along ⟨2, hlt⟩ (near d k)) = _
    rw [al _ _ rfl rfl]
    rfl

end Cert.ReferenceIdeal.Nearest

end
-- ==== Proof.RefInterp.lean ====
module

public import proofs.«01_k».proof.Proof.Gen.ReferenceIdeal.Read
public import proofs.«01_k».proof.Proof.RefNear

public import proofs.«01_k».proof.Proof.Model
public import Idealize.ShloMosaic.Lib.Pointwise.Reduce
public import Idealize.ShloMosaic.Lib.Pointwise

@[expose] public section

set_option maxRecDepth 16384

noncomputable section

namespace Cert.ReferenceIdeal.Nearest

open Cert.ReferenceIdeal Cert.ReferenceIdeal.Gen Cert.ReferenceIdeal.Read Cert.Spec Idealize.ShloMosaic

/-- A position, as a signed word. -/
theorem index_toInt (l : Fin 1024) : (BitVec.ofNat 32 l.val).toInt = (l.val : ℤ) := by
  have hl := l.isLt
  rw [BitVec.toInt_eq_toNat_of_lt (by rw [BitVec.toNat_ofNat]; omega), BitVec.toNat_ofNat]
  exact congrArg Int.ofNat (Nat.mod_eq_of_lt (by omega))

/-- The gather's source of one element. -/
theorem gather_row (f : FVec Ideal S16x1024x512 .f32) (i : IVec S16x4096x3x1 32) (b : Fin 16) (n : Fin 4096) (k : Fin 3) (c : Fin 512) (l : Fin 1024)
    (h : i (ix4 b n k 0) = BitVec.ofNat 32 l.val) :
    Host.gather gather_S16x1024x512_S16x4096x3x1_S16x4096x3x512_3_1_0_0_1_3_11512 f i (ix4 b n k c) = f (ix3 b l c) := by
  refine congrArg f (funext fun a => Fin.ext ?_)
  show GatherDims.start _ _ _ a + GatherDims.batchCoord _ _ a + GatherDims.offCoord _ _ a = _
  match a with
  | ⟨0, _⟩ =>
    rw [GatherDims.start_batching _ _ _ _ (by decide +revert), GatherDims.offCoord_eq_zero _ _ _ (by decide +revert)]
    unfold GatherDims.batchCoord
    rw [dif_pos (by decide +revert)]
    exact Nat.zero_add _
  | ⟨1, _⟩ =>
    rw [GatherDims.batchCoord_eq_zero _ _ _ (by decide +revert), GatherDims.offCoord_eq_zero _ _ _ (by decide +revert)]
    unfold GatherDims.start
    rw [dif_pos (by decide +revert)]
    have e : ∀ q, GatherDims.siIdx gather_S16x1024x512_S16x4096x3x1_S16x4096x3x512_3_1_0_0_1_3_11512 (ix4 b n k c) q = ix4 b n k 0 := fun q => by
      funext a
      match a with
      | ⟨0, _⟩ => rfl
      | ⟨1, _⟩ => rfl
      | ⟨2, _⟩ => rfl
      | ⟨3, _⟩ => exact Fin.ext (Nat.lt_one_iff.mp q.isLt)
    rw [e, h, index_toInt]
    exact Nat.min_eq_left (Nat.le_of_lt_succ l.isLt)
  | ⟨2, _⟩ =>
    rw [GatherDims.batchCoord_eq_zero _ _ _ (by decide +revert)]
    unfold GatherDims.start GatherDims.offCoord
    rw [dif_neg (by decide +revert), dif_pos (by decide +revert)]
    exact Nat.zero_add _

section

variable (x : Data) (a0 : FVec Ideal S16x3x4096 .f32) (a1 : FVec Ideal S16x3x1024 .f32)
  (h0 : ∀ b k n, a0 (ix3 b k n) = ((x.pp b k n : ℝ) : EReal)) (h1 : ∀ b k l, a1 (ix3 b k l) = ((x.sp b k l : ℝ) : EReal))
include h0 h1

/-- The negated distances. -/
theorem row_real (b : Fin 16) (n : Fin 4096) (l : Fin 1024) : val_main_v17 (F := Ideal) a0 a1 (ix3 b n l) = ((-(x.row b n l) : ℝ) : EReal) := by
  unfold val_main_v17
  pointwise [val_main_v16, val_main_v15, val_main_v14, val_main_v13, val_main_cst_1, val_main_v12, val_main_v11, val_main_v10, val_main_v9, val_main_v8, val_main_cst_0, val_main_v7, val_main_v6, val_main_v5, val_main_cst, val_main_v4, val_main_v3, val_main_v2, val_main_v1, val_main_v0]
  simp only [h0, h1, ofBits_neg_two, ← EReal.coe_mul, coe_sum, ← EReal.coe_add, ← EReal.coe_neg]
  rfl

/-- The three greatest negated distances. -/
theorem values_real (b : Fin 16) (n : Fin 4096) (k : Fin 3) :
    val_main_values (F := Ideal) a0 a1 (ix3 b n k) = ((-(x.row b n (near (x.row b n) k)) : ℝ) : EReal) :=
  (topK_row (val_main_v17 (F := Ideal) a0 a1) sliceFits_S16x4096x1024_S16x4096x3 (x.row b n) b n (row_real x a0 a1 h0 h1 b n) k).1

/-- Their positions. -/
theorem indices_real (b : Fin 16) (n : Fin 4096) (k : Fin 3) :
    val_main_indices (F := Ideal) a0 a1 (ix3 b n k) = BitVec.ofNat 32 (near (x.row b n) k).val :=
  (topK_row (val_main_v17 (F := Ideal) a0 a1) sliceFits_S16x4096x1024_S16x4096x3 (x.row b n) b n (row_real x a0 a1 h0 h1 b n) k).2

/-- The normalised weights. -/
theorem weights_real (b : Fin 16) (n : Fin 4096) (k : Fin 3) :
    val_main_v26 (F := Ideal) a0 a1 (ix3 b n k) = ((wt (x.row b n) k / ∑ l, wt (x.row b n) l : ℝ) : EReal) := by
  have v := values_real x a0 a1 h0 h1 b n
  have hd : ∀ a, 0 ≤ x.row b n a := dst_nonneg _ _
  unfold val_main_v26
  generalize hv : val_main_values (F := Ideal) a0 a1 = V at v
  pointwise [val_main_v25, val_main_v24, val_main_v23, val_main_cst_4, val_main_v22, val_main_v21, val_main_cst_3, val_main_v20, val_main_v19, val_main_cst_2, val_main_v18, hv]
  have q : ∀ j, Ideal.div 1 (-V (ix3 b n j) + Ideal.ofBits .f32 841731191#32) = ((wt (x.row b n) j : ℝ) : EReal) := fun j => by
    rw [v, ofBits_eps8, ← EReal.coe_neg, neg_neg, ← EReal.coe_add, ← EReal.coe_one, div_real (ne_of_gt (add_pos_of_nonneg_of_pos (hd _) eps8_pos))]
    rfl
  simp only [q, coe_sum]
  exact div_real (ne_of_gt (tot_pos hd)) _

/-- The positions as the gather reads them. -/
theorem starts_real (b : Fin 16) (n : Fin 4096) (k : Fin 3) :
    val_main_v32 (F := Ideal) a0 a1 (ix4 b n k 0) = BitVec.ofNat 32 (near (x.row b n) k).val := by
  have v := indices_real x a0 a1 h0 h1 b n k
  unfold val_main_v32
  generalize hv : val_main_indices (F := Ideal) a0 a1 = V at v
  pointwise [val_main_v31, val_main_v30, val_main_v29, val_main_c_5, val_main_v28, val_main_v27, val_main_c, hv]
  rw [v]
  generalize near (x.row b n) k = l
  have e : IntOp.cmpi .slt (BitVec.ofNat 32 l.val) 0#32 = 0#1 := by
    show BitVec.ofBool ((BitVec.ofNat 32 l.val).slt 0#32) = _
    rw [BitVec.slt, index_toInt, BitVec.toInt_zero, decide_eq_false (not_lt.mpr (Int.natCast_nonneg _))]
    rfl
  rw [e]
  rfl

/-- The interpolated features. -/
theorem it_real (a3 : FVec Ideal S16x512x1024 .f32) (h3 : ∀ b c l, a3 (ix3 b c l) = ((x.sf b c l : ℝ) : EReal)) (b : Fin 16) (n : Fin 4096) (c : Fin 512) :
    val_main_v37 (F := Ideal) a0 a1 a3 (ix3 b n c) = ((x.it b n c : ℝ) : EReal) := by
  have w := weights_real x a0 a1 h0 h1 b n
  have g : ∀ k, val_main_v33 (F := Ideal) a0 a1 a3 (ix4 b n k c) = ((x.sf b c (near (x.row b n) k) : ℝ) : EReal) := fun k => by
    unfold val_main_v33
    rw [gather_row _ _ b n k c _ (starts_real x a0 a1 h0 h1 b n k)]
    unfold val_main_v2
    pointwise []
    exact h3 _ _ _
  unfold val_main_v37
  generalize hw : val_main_v26 (F := Ideal) a0 a1 = W at w
  generalize hg : val_main_v33 (F := Ideal) a0 a1 a3 = G at g
  pointwise [val_main_v36, val_main_v35, val_main_v34, val_main_cst_6, hw, hg]
  simp only [w, g, ← EReal.coe_mul, coe_sum]
  rfl

end

end Cert.ReferenceIdeal.Nearest

end
-- ==== Proof.RefNorm.lean ====
module

public import proofs.«01_k».proof.Proof.Gen.ReferenceIdeal
public import proofs.«01_k».proof.Proof.Model
public import Idealize.ShloMosaic.Lib.Pointwise.Reduce
public import Idealize.ShloMosaic.Lib.Pointwise
public import Idealize.ShloMosaic.PureOps.Ideal.Laws

@[expose] public section

set_option maxRecDepth 16384

noncomputable section

namespace Cert.ReferenceIdeal.Norm

open Cert.ReferenceIdeal Cert.ReferenceIdeal.Gen Cert.Spec Idealize.ShloMosaic

/-! ## Batch normalisation over the first two axes -/

/-- Reducing the first two axes: the source indices that drop to `j`. -/
theorem fiber_rows (h : S16x4096x256.ReducesTo [0, 1] S256) (o : Fin 256) (i : S16x4096x256.Idx) :
    h.drop i = ix1 o ↔ ∃ k : Fin 16 × Fin 4096, ix3 k.1 k.2 o = i := by
  constructor
  · intro e
    refine ⟨(i 0, i 1), ?_⟩
    funext a
    match a with
    | ⟨0, _⟩ => rfl
    | ⟨1, _⟩ => rfl
    | ⟨2, _⟩ => exact Fin.ext (congrArg Fin.val (congrFun e ⟨0, by decide⟩)).symm
  · rintro ⟨k, rfl⟩
    funext b
    match b with
    | ⟨0, _⟩ => rfl

/-- The sum over the first two axes, at one channel. -/
theorem sum_rows (h : S16x4096x256.ReducesTo [0, 1] S256) (v : FVec Ideal S16x4096x256 .f32) (w : BitVec 32) (hu : 0 < S_.numel) (o : Fin 256) :
    Host.reduceAdd v (constant S_ .f32 w) h hu (ix1 o) = Ideal.ofBits .f32 w + ∑ b : Fin 16, ∑ n : Fin 4096, v (ix3 b n o) := by
  refine congrArg (Ideal.ofBits .f32 w + ·) ?_
  refine (Finset.sum_filter_eq_sum_of_fiber _ (fun k : Fin 16 × Fin 4096 => ix3 k.1 k.2 o)
    (fun _ _ e => Prod.ext (congrFun e 0) (congrFun e 1)) (fiber_rows h o) v).trans ?_
  simp only [Fintype.sum_prod_type]

/-- The mean of each channel. -/
def mu (h : FVec Ideal S16x4096x256 .f32) : FVec Ideal S256 .f32 :=
  Host.divf (Host.reduceAdd h (constant S_ .f32 0x00000000#32) reducesTo_S16x4096x256_S256_d0_1 h_S_)
    (broadcastInDim S256 ![] bcast_S_S256 (constant S_ .f32 0x47800000#32))

/-- The squares of the differences from the mean. -/
def sq (h : FVec Ideal S16x4096x256 .f32) : FVec Ideal S16x4096x256 .f32 :=
  let δ : FVec Ideal S16x4096x256 .f32 := subf h (broadcastInDim S16x4096x256 ![0, 1, 2] bcast_S1x1x256_S16x4096x256_0_1_2
    (Host.divf (broadcastInDim S1x1x256 ![2] bcast_S256_S1x1x256_2 (Host.reduceAdd h (constant S_ .f32 0x00000000#32) reducesTo_S16x4096x256_S256_d0_1 h_S_))
      (broadcastInDim S1x1x256 ![] bcast_S_S1x1x256 (constant S_ .f32 0x47800000#32))))
  mulf δ δ

/-- The number of rows, as the variance divides by it. -/
def cnt : FVec Ideal S_ .f32 := subf (constant S_ .f32 0x47800000#32) (sitofp .f32 (constantI S_ 32 0#32))

/-- The variance of each channel. -/
def va (h : FVec Ideal S16x4096x256 .f32) : FVec Ideal S256 .f32 :=
  select (broadcastInDim S256 ![] bcast_S_S256 (cmpf .ogt cnt (constant S_ .f32 0x00000000#32)))
    (Host.divf (Host.reduceAdd (sq h) (constant S_ .f32 0x00000000#32) reducesTo_S16x4096x256_S256_d0_1 h_S_) (broadcastInDim S256 ![] bcast_S_S256 cnt))
    (broadcastInDim S256 ![] bcast_S_S256 (id (constant S_ .f32 0x7FC00000#32)))

/-- The normalised rows, scaled, shifted and cut at zero. -/
def bn (h : FVec Ideal S16x4096x256 .f32) (g e : FVec Ideal S256 .f32) : FVec Ideal S16x4096x256 .f32 :=
  maximumf (addf (mulf (Host.divf
      (subf h (broadcastInDim S16x4096x256 ![0, 1, 2] bcast_S1x1x256_S16x4096x256_0_1_2 (broadcastInDim S1x1x256 ![2] bcast_S256_S1x1x256_2 (mu h))))
      (broadcastInDim S16x4096x256 ![0, 1, 2] bcast_S1x1x256_S16x4096x256_0_1_2 (broadcastInDim S1x1x256 ![2] bcast_S256_S1x1x256_2
        (Host.sqrt (addf (va h) (broadcastInDim S256 ![] bcast_S_S256 (constant S_ .f32 0x3727C5AC#32)))))))
      (broadcastInDim S16x4096x256 ![0, 1, 2] bcast_S1x1x256_S16x4096x256_0_1_2 (broadcastInDim S1x1x256 ![2] bcast_S256_S1x1x256_2 g)))
      (broadcastInDim S16x4096x256 ![0, 1, 2] bcast_S1x1x256_S16x4096x256_0_1_2 (broadcastInDim S1x1x256 ![2] bcast_S256_S1x1x256_2 e)))
    (broadcastInDim S16x4096x256 ![] bcast_S_S16x4096x256 (constant S_ .f32 0x00000000#32))

section

variable (h : FVec Ideal S16x4096x256 .f32) (H : Fin 256 → Fin 16 → Fin 4096 → ℝ) (hh : ∀ b n o, h (ix3 b n o) = ((H o b n : ℝ) : EReal))
include hh

theorem total_real (o : Fin 256) :
    Host.reduceAdd h (constant S_ .f32 0x00000000#32) reducesTo_S16x4096x256_S256_d0_1 h_S_ (ix1 o) = ((∑ b, ∑ n, H o b n : ℝ) : EReal) := by
  rw [sum_rows, Ideal.ofBits_zero, zero_add]
  simp only [hh, coe_sum]

theorem mu_real (o : Fin 256) : mu h (ix1 o) = ((mean (H o) : ℝ) : EReal) := by
  have e := total_real h H hh o
  unfold mu
  generalize Host.reduceAdd h (constant S_ .f32 0x00000000#32) reducesTo_S16x4096x256_S256_d0_1 h_S_ = s at e ⊢
  pointwise []
  rw [e, ofBits_65536, div_real (by norm_num)]
  rfl

theorem sq_real (b : Fin 16) (n : Fin 4096) (o : Fin 256) : sq h (ix3 b n o) = (((H o b n - mean (H o)) * (H o b n - mean (H o)) : ℝ) : EReal) := by
  have e := total_real h H hh o
  unfold sq
  generalize Host.reduceAdd h (constant S_ .f32 0x00000000#32) reducesTo_S16x4096x256_S256_d0_1 h_S_ = s at e ⊢
  pointwise []
  rw [hh, e, ofBits_65536, div_real (by norm_num), ← EReal.coe_sub, ← EReal.coe_mul]
  rfl

theorem va_real (o : Fin 256) : va h (ix1 o) = ((var (H o) : ℝ) : EReal) := by
  have e := total_real (sq h) (fun o b n => (H o b n - mean (H o)) * (H o b n - mean (H o))) (sq_real h H hh) o
  unfold va
  generalize Host.reduceAdd (sq h) (constant S_ .f32 0x00000000#32) reducesTo_S16x4096x256_S256_d0_1 h_S_ = s at e ⊢
  pointwise [cnt]
  have z : FloatOps.sitofp (F := Ideal) .f32 0#32 = ((0 : ℝ) : EReal) := by
    show (((0#32 : BitVec 32).toInt : ℝ) : EReal) = _
    simp
  rw [z, ofBits_65536, ← EReal.coe_sub, sub_zero, if_pos (EReal.coe_pos.mpr (by norm_num)), e, div_real (by norm_num)]
  rfl

theorem bn_real (g e : FVec Ideal S256 .f32) (G E : Fin 256 → ℝ) (hg : ∀ o, g (ix1 o) = ((G o : ℝ) : EReal)) (he : ∀ o, e (ix1 o) = ((E o : ℝ) : EReal))
    (b : Fin 16) (n : Fin 4096) (o : Fin 256) : bn h g e (ix3 b n o) = ((norm (H o) (G o) (E o) b n : ℝ) : EReal) := by
  have m := mu_real h H hh o
  have v := va_real h H hh o
  unfold bn
  generalize mu h = μ at m ⊢
  generalize va h = ν at v ⊢
  pointwise []
  have p := sd_pos (H o)
  rw [hh, hg, he, m, v, ofBits_eps5, ← EReal.coe_add, sqrt_real (add_nonneg (var_nonneg _) (le_of_lt eps5_pos)), ← EReal.coe_sub, div_real (ne_of_gt p),
    ← EReal.coe_mul, ← EReal.coe_add, ← EReal.coe_zero, coe_max]
  rfl

end

end Cert.ReferenceIdeal.Norm

end
-- ==== Proof.RefLayers.lean ====
module

public import proofs.«01_k».proof.Proof.RefInterp
public import proofs.«01_k».proof.Proof.RefNorm

@[expose] public section

set_option maxRecDepth 16384

noncomputable section

namespace Cert.ReferenceIdeal.Layers

open Cert.ReferenceIdeal Cert.ReferenceIdeal.Gen Cert.ReferenceIdeal.Read Cert.Spec Idealize.ShloMosaic

section

variable (x : Data) (a0 : FVec Ideal S16x3x4096 .f32) (a1 : FVec Ideal S16x3x1024 .f32) (a2 : FVec Ideal S16x256x4096 .f32) (a3 : FVec Ideal S16x512x1024 .f32)
  (a4 : FVec Ideal S256x768 .f32) (a5 a6 a7 : FVec Ideal S256 .f32) (a8 : FVec Ideal S256x256 .f32) (a9 a10 a11 : FVec Ideal S256 .f32)
  (h : Holds x a0 a1 a2 a3 a4 a5 a6 a7 a8 a9 a10 a11)
include h

/-- The first layer before it is normalised. -/
theorem first_real (b : Fin 16) (n : Fin 4096) (o : Fin 256) : val_main_v44 (F := Ideal) a0 a1 a2 a3 a4 a5 (ix3 b n o) = ((x.H0 o b n : ℝ) : EReal) := by
  have t := Nearest.it_real x a0 a1 h.pp h.sp a3 h.sf b n
  unfold val_main_v44
  generalize ht : val_main_v37 (F := Ideal) a0 a1 a3 = T at t
  pointwise [val_main_v43, val_main_v42, val_main_v41, val_main_v40, val_main_v39, val_main_v38, ht]
  simp only [t, h.sk, h.w0, h.b0, ← EReal.coe_mul, coe_sum, ← EReal.coe_add]
  rfl

/-- The first layer. -/
theorem hidden_real (b : Fin 16) (n : Fin 4096) (o : Fin 256) : val_main_v64 (F := Ideal) a0 a1 a2 a3 a4 a5 a6 a7 (ix3 b n o) = ((x.H1 o b n : ℝ) : EReal) := by
  have e : val_main_v64 (F := Ideal) a0 a1 a2 a3 a4 a5 a6 a7 = Norm.bn (val_main_v44 (F := Ideal) a0 a1 a2 a3 a4 a5) a6 a7 := rfl
  rw [e]
  exact Norm.bn_real _ x.H0 (first_real x a0 a1 a2 a3 a4 a5 a6 a7 a8 a9 a10 a11 h) a6 a7 x.g0 x.e0 h.g0 h.e0 b n o

/-- The second layer before it is normalised. -/
theorem second_real (b : Fin 16) (n : Fin 4096) (o : Fin 256) : val_main_v69 (F := Ideal) a0 a1 a2 a3 a4 a5 a6 a7 a8 a9 (ix3 b n o) = ((x.H2 o b n : ℝ) : EReal) := by
  have t := hidden_real x a0 a1 a2 a3 a4 a5 a6 a7 a8 a9 a10 a11 h b n
  unfold val_main_v69
  generalize ht : val_main_v64 (F := Ideal) a0 a1 a2 a3 a4 a5 a6 a7 = T at t
  pointwise [val_main_v68, val_main_v67, val_main_v66, val_main_v65, ht]
  simp only [t, h.w1, h.b1, ← EReal.coe_mul, coe_sum, ← EReal.coe_add]
  rfl

/-- The second layer. -/
theorem last_real (b : Fin 16) (n : Fin 4096) (o : Fin 256) : val_main_v89 (F := Ideal) a0 a1 a2 a3 a4 a5 a6 a7 a8 a9 a10 a11 (ix3 b n o) = ((x.out o b n : ℝ) : EReal) := by
  have e : val_main_v89 (F := Ideal) a0 a1 a2 a3 a4 a5 a6 a7 a8 a9 a10 a11 = Norm.bn (val_main_v69 (F := Ideal) a0 a1 a2 a3 a4 a5 a6 a7 a8 a9) a10 a11 := rfl
  rw [e]
  exact Norm.bn_real _ x.H2 (second_real x a0 a1 a2 a3 a4 a5 a6 a7 a8 a9 a10 a11 h) a10 a11 x.g1 x.e1 h.g1 h.e1 b n o

/-- The result, channels before points. -/
theorem result_real : val_main_v90 (F := Ideal) a0 a1 a2 a3 a4 a5 a6 a7 a8 a9 a10 a11 = fun i => ((x.out (i 1) (i 0) (i 2) : ℝ) : EReal) := by
  funext i
  have t := last_real x a0 a1 a2 a3 a4 a5 a6 a7 a8 a9 a10 a11 h (i 0) (i 2) (i 1)
  have hi : i = ix3 (i 0) (i 1) (i 2) := by
    funext a
    match a with
    | ⟨0, _⟩ => rfl
    | ⟨1, _⟩ => rfl
    | ⟨2, _⟩ => rfl
  rw [hi]
  unfold val_main_v90
  generalize val_main_v89 (F := Ideal) a0 a1 a2 a3 a4 a5 a6 a7 a8 a9 a10 a11 = T at t
  pointwise []
  exact t

end

end Cert.ReferenceIdeal.Layers

end
-- ==== Proof.RefFinite.lean ====
module

public import proofs.«01_k».proof.Pre_finite
public import proofs.«01_k».proof.Proof.Gen.Pre_finite
public import proofs.«01_k».proof.Proof.Model
public import Idealize.ShloMosaic.Lib.ReduceAll

@[expose] public section

set_option maxRecDepth 16384

noncomputable section

namespace Cert.Pre_finite.Real

open Cert.Pre_finite Cert.Spec Idealize.ShloMosaic

/-- A conjunction of two truth values that is true has both true. -/
theorem andi_one {a b : IVec S_ 1} (h : andi a b = fun _ => 1#1) : a = (fun _ => 1#1) ∧ b = fun _ => 1#1 :=
  ⟨funext fun i => (IntOp.andi_eq_one.mp (congrFun h i)).1, funext fun i => (IntOp.andi_eq_one.mp (congrFun h i)).2⟩

/-- An array all of whose elements compare less than infinity in absolute value is an array of reals. -/
theorem real_of {s : Shape} {axes : List (Fin s.rank)} (a : FVec Ideal s .f32) (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32))) (constantI S_ 1 1#1) hr hu = fun _ => 1#1) : IsReal a := fun i => by
  have e := Host.reduce_andi_all _ _ hr hu (fun k => k.elim0) (congrFun h _) i
  refine exists_real ?_
  have e' : BitVec.ofBool (decide (max (a i) (-(a i)) < Ideal.ofBits .f32 0x7F800000#32)) = 1#1 := e
  rw [ofBits_top] at e'
  by_contra hn
  rw [decide_eq_false hn] at e'
  exact absurd e' (by decide)

/-- Finite arguments are arrays of reals, and so hold some data. -/
theorem holds_of_finite (a0 : FVec Ideal S16x3x4096 .f32) (a1 : FVec Ideal S16x3x1024 .f32) (a2 : FVec Ideal S16x256x4096 .f32) (a3 : FVec Ideal S16x512x1024 .f32) (a4 : FVec Ideal S256x768 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32)
    (h : fn (F := Ideal) a0 a1 a2 a3 a4 a5 a6 a7 a8 a9 a10 a11 = fun _ => 1#1) : ∃ x, Holds x a0 a1 a2 a3 a4 a5 a6 a7 a8 a9 a10 a11 := by
  unfold fn fn_part1 fn_part2 fn_part3 at h
  dsimp only at h
  obtain ⟨h, r11⟩ := andi_one h
  obtain ⟨h, r10⟩ := andi_one h
  obtain ⟨h, r9⟩ := andi_one h
  obtain ⟨h, r8⟩ := andi_one h
  obtain ⟨h, r7⟩ := andi_one h
  obtain ⟨h, r6⟩ := andi_one h
  obtain ⟨h, r5⟩ := andi_one h
  obtain ⟨h, r4⟩ := andi_one h
  obtain ⟨h, r3⟩ := andi_one h
  obtain ⟨h, r2⟩ := andi_one h
  obtain ⟨r0, r1⟩ := andi_one h
  exact exists_holds a0 a1 a2 a3 a4 a5 a6 a7 a8 a9 a10 a11 (real_of a0 _ _ _ r0) (real_of a1 _ _ _ r1) (real_of a2 _ _ _ r2) (real_of a3 _ _ _ r3) (real_of a4 _ _ _ r4) (real_of a5 _ _ _ r5)
    (real_of a6 _ _ _ r6) (real_of a7 _ _ _ r7) (real_of a8 _ _ _ r8) (real_of a9 _ _ _ r9) (real_of a10 _ _ _ r10) (real_of a11 _ _ _ r11)

end Cert.Pre_finite.Real

end
-- ==== Proof.Values.lean ====
module

public import proofs.«01_k».proof.Proof.Inputs
public import proofs.«01_k».proof.Proof.RefLayers
public import proofs.«01_k».proof.Proof.RefFinite
public import proofs.«01_k».proof.Proof.Gen.ReferenceIdeal.Run

@[expose] public section

noncomputable section

namespace Cert.Value

open Idealize.ShloMosaic Idealize.SL.Sem Cert.Spec

/-- On arguments that hold `x`, the kernel's result array ends as the function of `x`. -/
theorem kernel (m : (ℓ : Loc Cert.KernelIdeal.nD Cert.KernelIdeal.τ Cert.KernelIdeal.sig) → Buf (Elt Ideal) ℓ) (ρ : Dev Cert.KernelIdeal.nD → PrngReg) (x : Dev Cert.KernelIdeal.nD → Data)
    (H : ∀ c : Dev Cert.KernelIdeal.nD, Holds (x c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, r.2.mem ((c.tc : Thread Cert.KernelIdeal.nD Cert.KernelIdeal.τ).loc Cert.KernelIdeal.main_v0) = Cert.KernelIdeal.Mega.result (x c)) :=
  (θ_run _ _ _).mono (fun r h c => ((h c).1 13).trans (Cert.KernelIdeal.Mega.final m c (x c) (Cert.KernelIdeal.Mega.reads m c (x c) (H c))))
    (Cert.KernelIdeal.Mega.run_main (F := Ideal) m ρ)

/-- On arguments that hold `x`, the reference's result array ends as the same function of `x`. -/
theorem reference (m' : (ℓ : Loc Cert.ReferenceIdeal.nD Cert.ReferenceIdeal.τ Cert.ReferenceIdeal.sig) → Buf (Elt Ideal) ℓ) (ρ : Dev Cert.ReferenceIdeal.nD → PrngReg) (x : Dev Cert.ReferenceIdeal.nD → Data)
    (H : ∀ c : Dev Cert.ReferenceIdeal.nD, Holds (x c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) :
    θ_run (Cert.ReferenceIdeal.defs (F := Ideal)) (onTc (τ := Cert.ReferenceIdeal.τ) (Cert.ReferenceIdeal.main (F := Ideal))) ⟨m', fun _ => 0, ρ⟩
      (fun r => ∀ c : Dev Cert.ReferenceIdeal.nD, r.2.mem ((c.tc : Thread Cert.ReferenceIdeal.nD Cert.ReferenceIdeal.τ).loc Cert.ReferenceIdeal.main_v90) = Cert.KernelIdeal.Mega.result (x c)) :=
  (θ_run _ _ _).mono (fun r h c => (h c).1.trans ((Cert.ReferenceIdeal.Read.val_main_v90_eq (F := Ideal) (StableHlo.launchContents m' c)).trans
    (Cert.ReferenceIdeal.Layers.result_real (x c) _ _ _ _ _ _ _ _ _ _ _ _ (H c))))
    (Cert.ReferenceIdeal.Value.run (F := Ideal) m' ρ)

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KLaunch
public import proofs.«01_k».proof.Proof.Launch
public import proofs.«01_k».proof.Proof.Gen.ReferenceIdeal.Read
public import proofs.«01_k».proof.Proof.Gen.Pre_finite
public import proofs.«01_k».proof.Proof.Values
public import Idealize.ShloMosaic.Adequacy
public import Idealize.ShloMosaic.Init

@[expose] public section

noncomputable section

namespace Cert.Proof

open Idealize.ShloMosaic Idealize.SL.Sem

/-- The kernel as printed ends with its arguments unchanged and every counter at zero. -/
theorem frame_p : Cert.quiescent_Kernel := fun m g _ => Cert.Kernel.Mega.frame m g

/-- So does the kernel over the extended reals. -/
theorem frame_pi : Cert.quiescent_KernelIdeal := fun m g _ => Cert.KernelIdeal.Mega.frame m g

/-- So does the reference, which has no counters. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The same, of finite arguments. -/
theorem frame_pi_finite : Cert.quiescent_KernelIdeal_pre_finite := fun m g _ => Cert.KernelIdeal.Mega.frame m g

/-- The same, of finite arguments. -/
theorem frame_ri_finite : Cert.quiescent_ReferenceIdeal_pre_finite := fun m g _ => frame_ri m g trivial

/-- On finite arguments the kernel and the reference end with the same result: both hold the one function of the real numbers the arguments are. -/
theorem algebraic : Cert.algebraic_KernelIdeal_ReferenceIdeal_pre_finite := fun m g m' g' hpre hm => by
  choose x H using fun c => Cert.Pre_finite.Real.holds_of_finite _ _ _ _ _ _ _ _ _ _ _ _ (hpre c)
  refine ⟨fun c => Cert.KernelIdeal.Mega.result (x c), ?_, ?_⟩
  · exact (θ_run _ _ _).mono (fun r h c => ⟨h.1 c, h.2.1 c⟩) (θ_run_and (Cert.Value.kernel m g x H) (Cert.KernelIdeal.Mega.frame m g))
  · refine (θ_run _ _ _).mono (fun r h c => ⟨h.1 c, (h.2 c).2⟩) (θ_run_and (Cert.Value.reference m' g' x fun c => ?_) (Cert.ReferenceIdeal.Value.run (F := Ideal) m' g'))
    obtain ⟨h0, h1, h2, h3, h4, h5, h6, h7, h8, h9, h10, h11⟩ := hm c
    rw [h0, h1, h2, h3, h4, h5, h6, h7, h8, h9, h10, h11]
    exact H c

/-- The claim. -/
theorem claim : Cert.Claim := ⟨Cert.Kernel.Gen.facts, Cert.KernelIdeal.Gen.facts, Cert.ReferenceIdeal.Gen.facts, Cert.Pre_finite.Gen.facts,
  frame_p, frame_pi, frame_pi_finite, frame_ri, frame_ri_finite, trivial, algebraic⟩

end Cert.Proof

end
